-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_s4d_finite [hPre_s4d_finite : Cert.Pre_s4d_finite.Facts] (m : (ℓ : Loc Cert.KernelIdeal.nD Cert.KernelIdeal.τ Cert.KernelIdeal.sig) → Buf (Elt Ideal) ℓ) : Prop :=
  ∀ c : Dev Cert.KernelIdeal.nD,
    (Cert.Pre_s4d_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_s4d_finite [hPre_s4d_finite : Cert.Pre_s4d_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_s4d_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_s4d_finite [hKernelIdeal : Cert.KernelIdeal.Facts] [hPre_s4d_finite : Cert.Pre_s4d_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_s4d_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_s4d_finite [hReferenceIdeal : Cert.ReferenceIdeal.Facts] [hPre_s4d_finite : Cert.Pre_s4d_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_s4d_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_s4d_finite [hKernelIdeal : Cert.KernelIdeal.Facts] [hReferenceIdeal : Cert.ReferenceIdeal.Facts] [hPre_s4d_finite : Cert.Pre_s4d_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_s4d_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_s4d_finite : Cert.Pre_s4d_finite.Facts),
    quiescent_Kernel (hKernel := hKernel)
    ∧ quiescent_KernelIdeal (hKernelIdeal := hKernelIdeal)
    ∧ quiescent_KernelIdeal_pre_s4d_finite (hKernelIdeal := hKernelIdeal) (hPre_s4d_finite := hPre_s4d_finite)
    ∧ quiescent_ReferenceIdeal (hReferenceIdeal := hReferenceIdeal)
    ∧ quiescent_ReferenceIdeal_pre_s4d_finite (hReferenceIdeal := hReferenceIdeal) (hPre_s4d_finite := hPre_s4d_finite)
    ∧ preserves_Kernel_KernelIdeal
    ∧ algebraic_KernelIdeal_ReferenceIdeal_pre_s4d_finite (hKernelIdeal := hKernelIdeal) (hReferenceIdeal := hReferenceIdeal) (hPre_s4d_finite := hPre_s4d_finite)
-- ==== Pre_s4d_finite.lean ====
abbrev S64x2048x12 : Shape := ⟨3, ![64, 2048, 12]⟩
abbrev S48x12 : Shape := ⟨2, ![48, 12]⟩
abbrev S24x1x4 : Shape := ⟨3, ![24, 1, 4]⟩
abbrev S24 : Shape := ⟨1, ![24]⟩
abbrev S36x24 : Shape := ⟨2, ![36, 24]⟩
abbrev S24x4 : Shape := ⟨2, ![24, 4]⟩
abbrev S24x16 : Shape := ⟨2, ![24, 16]⟩
abbrev S12x24 : Shape := ⟨2, ![12, 24]⟩
abbrev S1x12 : Shape := ⟨2, ![1, 12]⟩
abbrev S1 : Shape := ⟨1, ![1]⟩
abbrev S_ : Shape := ⟨0, ![]⟩
abbrev S24x1 : Shape := ⟨2, ![24, 1]⟩
abbrev S24x12 : Shape := ⟨2, ![24, 12]⟩

class Facts : Prop where
  bcast_S_S24x16 : S_.BroadcastsInDim S24x16 (![] : Fin 0 → Fin S24x16.rank)
  slices_S24x16_S24x1_0_0 : S24x16.Slices ![0, 0] S24x1
  bcast_S24x1_S24x16_0_1 : S24x1.BroadcastsInDim S24x16 (![0, 1] : Fin 2 → Fin S24x16.rank)
  reducesTo_S24x16_S_d0_1 : S24x16.ReducesTo [0, 1] S_
  h_S_ : 0 < S_.numel
  slices_S48x12_S24x12_0_0 : S48x12.Slices ![0, 0] S24x12
  bcast_S_S64x2048x12 : S_.BroadcastsInDim S64x2048x12 (![] : Fin 0 → Fin S64x2048x12.rank)
  reducesTo_S64x2048x12_S_d0_1_2 : S64x2048x12.ReducesTo [0, 1, 2] S_
  bcast_S_S24x12 : S_.BroadcastsInDim S24x12 (![] : Fin 0 → Fin S24x12.rank)
  reducesTo_S24x12_S_d0_1 : S24x12.ReducesTo [0, 1] S_
  bcast_S_S24x1x4 : S_.BroadcastsInDim S24x1x4 (![] : Fin 0 → Fin S24x1x4.rank)
  reducesTo_S24x1x4_S_d0_1_2 : S24x1x4.ReducesTo [0, 1, 2] S_
  bcast_S_S24 : S_.BroadcastsInDim S24 (![] : Fin 0 → Fin S24.rank)
  reducesTo_S24_S_d0 : S24.ReducesTo [0] S_
  bcast_S_S36x24 : S_.BroadcastsInDim S36x24 (![] : Fin 0 → Fin S36x24.rank)
  reducesTo_S36x24_S_d0_1 : S36x24.ReducesTo [0, 1] S_
  bcast_S_S24x4 : S_.BroadcastsInDim S24x4 (![] : Fin 0 → Fin S24x4.rank)
  reducesTo_S24x4_S_d0_1 : S24x4.ReducesTo [0, 1] S_

variable [Facts]

def fn_part2 {F : FTy → Type} [FloatOps F] (main_arg5 : FVec F S24x4 .f32) (main_arg6 : FVec F S24 .f32) (main_v35 : IVec S_ 1) : IVec S_ 1 :=
  let main_v36 : FVec F S24x4 .f32 := Host.absf main_arg5
  let main_cst_10 : FVec F S_ .f32 := constant S_ .f32 0x7F800000#32
  let main_v37 : FVec F S24x4 .f32 := broadcastInDim S24x4 ![] bcast_S_S24x4 main_cst_10
  let main_v38 : IVec S24x4 1 := cmpf .olt main_v36 main_v37
  let main_c_11 : IVec S_ 1 := constantI S_ 1 1#1
  let main_v39 : IVec S_ 1 := (fun x v => Host.reduce IntOp.andi x v reducesTo_S24x4_S_d0_1 h_S_) main_v38 main_c_11
  let main_v40 : IVec S_ 1 := andi main_v35 main_v39
  let main_v41 : FVec F S24 .f32 := Host.absf main_arg6
  let main_cst_12 : FVec F S_ .f32 := constant S_ .f32 0x7F800000#32
  let main_v42 : FVec F S24 .f32 := broadcastInDim S24 ![] bcast_S_S24 main_cst_12
  let main_v43 : IVec S24 1 := cmpf .olt main_v41 main_v42
  let main_c_13 : IVec S_ 1 := constantI S_ 1 1#1
  let main_v44 : IVec S_ 1 := (fun x v => Host.reduce IntOp.andi x v reducesTo_S24_S_d0 h_S_) main_v43 main_c_13
  let main_v45 : IVec S_ 1 := andi main_v40 main_v44
  main_v45

def fn_part1 {F : FTy → Type} [FloatOps F] (main_arg2 : FVec F S24x1x4 .f32) (main_arg3 : FVec F S24 .f32) (main_arg4 : FVec F S36x24 .f32) (main_arg5 : FVec F S24x4 .f32) (main_arg6 : FVec F S24 .f32) (main_v15 : IVec S_ 1) (main_v18 : IVec S24x12 1) : IVec S_ 1 :=
  let main_c_3 : IVec S_ 1 := constantI S_ 1 1#1
  let main_v19 : IVec S_ 1 := (fun x v => Host.reduce IntOp.andi x v reducesTo_S24x12_S_d0_1 h_S_) main_v18 main_c_3
  let main_v20 : IVec S_ 1 := andi main_v15 main_v19
  let main_v21 : FVec F S24x1x4 .f32 := Host.absf main_arg2
  let main_cst_4 : FVec F S_ .f32 := constant S_ .f32 0x7F800000#32
  let main_v22 : FVec F S24x1x4 .f32 := broadcastInDim S24x1x4 ![] bcast_S_S24x1x4 main_cst_4
  let main_v23 : IVec S24x1x4 1 := cmpf .olt main_v21 main_v22
  let main_c_5 : IVec S_ 1 := constantI S_ 1 1#1
  let main_v24 : IVec S_ 1 := (fun x v => Host.reduce IntOp.andi x v reducesTo_S24x1x4_S_d0_1_2 h_S_) main_v23 main_c_5
  let main_v25 : IVec S_ 1 := andi main_v20 main_v24
  let main_v26 : FVec F S24 .f32 := Host.absf main_arg3
  let main_cst_6 : FVec F S_ .f32 := constant S_ .f32 0x7F800000#32
  let main_v27 : FVec F S24 .f32 := broadcastInDim S24 ![] bcast_S_S24 main_cst_6
  let main_v28 : IVec S24 1 := cmpf .olt main_v26 main_v27
  let main_c_7 : IVec S_ 1 := constantI S_ 1 1#1
  let main_v29 : IVec S_ 1 := (fun x v => Host.reduce IntOp.andi x v reducesTo_S24_S_d0 h_S_) main_v28 main_c_7
  let main_v30 : IVec S_ 1 := andi main_v25 main_v29
  let main_v31 : FVec F S36x24 .f32 := Host.absf main_arg4
  let main_cst_8 : FVec F S_ .f32 := constant S_ .f32 0x7F800000#32
  let main_v32 : FVec F S36x24 .f32 := broadcastInDim S36x24 ![] bcast_S_S36x24 main_cst_8
  let main_v33 : IVec S36x24 1 := cmpf .olt main_v31 main_v32
  let main_c_9 : IVec S_ 1 := constantI S_ 1 1#1
  let main_v34 : IVec S_ 1 := (fun x v => Host.reduce IntOp.andi x v reducesTo_S36x24_S_d0_1 h_S_) main_v33 main_c_9
  let main_v35 : IVec S_ 1 := andi main_v30 main_v34
  fn_part2 (F := F) main_arg5 main_arg6 main_v35

def fn {F : FTy → Type} [FloatOps F] (main_arg0 : FVec F S64x2048x12 .f32) (main_arg1 : FVec F S48x12 .f32) (main_arg2 : FVec F S24x1x4 .f32) (main_arg3 : FVec F S24 .f32) (main_arg4 : FVec F S36x24 .f32) (main_arg5 : FVec F S24x4 .f32) (main_arg6 : FVec F S24 .f32) (main_arg7 : FVec F S24x16 .f32) (main_arg8 : FVec F S24 .f32) (main_arg9 : FVec F S12x24 .f32) (main_arg10 : FVec F S1x12 .f32) (main_arg11 : FVec F S1 .f32) : IVec S_ 1 :=
  let main_v0 : IVec S24x16 32 := iotaInDim S24x16 32 1
  let main_v1 : FVec F S24x16 .f32 := sitofp .f32 main_v0
  let main_cst : FVec F S_ .f32 := constant S_ .f32 0x3F800000#32
  let main_v2 : FVec F S24x16 .f32 := broadcastInDim S24x16 ![] bcast_S_S24x16 main_cst
  let main_v3 : FVec F S24x16 .f32 := addf main_v1 main_v2
  let main_v4 : FVec F S24x16 .f32 := Host.log main_v3
  let main_v5 : FVec F S24x1 .f32 := (extractStridedSlice S24x1 ![0, 0] · slices_S24x16_S24x1_0_0) main_arg7
  let main_v6 : FVec F S24x16 .f32 := broadcastInDim S24x16 ![0, 1] bcast_S24x1_S24x16_0_1 main_v5
  let main_v7 : FVec F S24x16 .f32 := addf main_v6 main_v4
  let main_v8 : IVec S24x16 1 := cmpf .oeq main_arg7 main_v7
  let main_c : IVec S_ 1 := constantI S_ 1 1#1
  let main_v9 : IVec S_ 1 := (fun x v => Host.reduce IntOp.andi x v reducesTo_S24x16_S_d0_1 h_S_) main_v8 main_c
  let main_v10 : FVec F S24x12 .f32 := (extractStridedSlice S24x12 ![0, 0] · slices_S48x12_S24x12_0_0) main_arg1
  let main_v11 : FVec F S64x2048x12 .f32 := Host.absf main_arg0
  let main_cst_0 : FVec F S_ .f32 := constant S_ .f32 0x7F800000#32
  let main_v12 : FVec F S64x2048x12 .f32 := broadcastInDim S64x2048x12 ![] bcast_S_S64x2048x12 main_cst_0
  let main_v13 : IVec S64x2048x12 1 := cmpf .olt main_v11 main_v12
  let main_c_1 : IVec S_ 1 := constantI S_ 1 1#1
  let main_v14 : IVec S_ 1 := (fun x v => Host.reduce IntOp.andi x v reducesTo_S64x2048x12_S_d0_1_2 h_S_) main_v13 main_c_1
  let main_v15 : IVec S_ 1 := andi main_v9 main_v14
  let main_v16 : FVec F S24x12 .f32 := Host.absf main_v10
  let main_cst_2 : FVec F S_ .f32 := constant S_ .f32 0x7F800000#32
  let main_v17 : FVec F S24x12 .f32 := broadcastInDim S24x12 ![] bcast_S_S24x12 main_cst_2
  let main_v18 : IVec S24x12 1 := cmpf .olt main_v16 main_v17
  fn_part1 (F := F) main_arg2 main_arg3 main_arg4 main_arg5 main_arg6 main_v15 main_v18
-- ==== Kernel.lean ====
abbrev S64x2048x12 : Shape := ⟨3, ![64, 2048, 12]⟩
abbrev S48x12 : Shape := ⟨2, ![48, 12]⟩
abbrev S24x1x4 : Shape := ⟨3, ![24, 1, 4]⟩
abbrev S24 : Shape := ⟨1, ![24]⟩
abbrev S36x24 : Shape := ⟨2, ![36, 24]⟩
abbrev S24x4 : Shape := ⟨2, ![24, 4]⟩
abbrev S24x16 : Shape := ⟨2, ![24, 16]⟩
abbrev S12x24 : Shape := ⟨2, ![12, 24]⟩
abbrev S1x12 : Shape := ⟨2, ![1, 12]⟩
abbrev S1 : Shape := ⟨1, ![1]⟩
abbrev S64x12x2048 : Shape := ⟨3, ![64, 12, 2048]⟩
abbrev S24x1 : Shape := ⟨2, ![24, 1]⟩
abbrev S24x128 : Shape := ⟨2, ![24, 128]⟩
abbrev S24x896 : Shape := ⟨2, ![24, 896]⟩
abbrev S1x24x1x896 : Shape := ⟨4, ![1, 24, 1, 896]⟩
abbrev S16x24x1x896 : Shape := ⟨4, ![16, 24, 1, 896]⟩
abbrev S384x896 : Shape := ⟨2, ![384, 896]⟩
abbrev S_ : Shape := ⟨0, ![]⟩
abbrev S512x512 : Shape := ⟨2, ![512, 512]⟩
abbrev S1x24x1x1 : Shape := ⟨4, ![1, 24, 1, 1]⟩
abbrev S16x24x1x1 : Shape := ⟨4, ![16, 24, 1, 1]⟩
abbrev S384x1 : Shape := ⟨2, ![384, 1]⟩
abbrev S1x1 : Shape := ⟨2, ![1, 1]⟩
abbrev S64x1x1 : Shape := ⟨3, ![64, 1, 1]⟩
abbrev S16x12x2048 : Shape := ⟨3, ![16, 12, 2048]⟩
abbrev S16x1x1 : Shape := ⟨3, ![16, 1, 1]⟩
abbrev S24x12 : Shape := ⟨2, ![24, 12]⟩
abbrev S1x12x2048 : Shape := ⟨3, ![1, 12, 2048]⟩
abbrev S12x2048 : Shape := ⟨2, ![12, 2048]⟩
abbrev S24x2048 : Shape := ⟨2, ![24, 2048]⟩
abbrev S384x2048 : Shape := ⟨2, ![384, 2048]⟩
abbrev S12x1 : Shape := ⟨2, ![12, 1]⟩
abbrev S12x16 : Shape := ⟨2, ![12, 16]⟩
abbrev S384x128 : Shape := ⟨2, ![384, 128]⟩
abbrev S20x24 : Shape := ⟨2, ![20, 24]⟩
abbrev S20x2048 : Shape := ⟨2, ![20, 2048]⟩
abbrev S16x24 : Shape := ⟨2, ![16, 24]⟩
abbrev S16x16 : Shape := ⟨2, ![16, 16]⟩
abbrev S4x2048 : Shape := ⟨2, ![4, 2048]⟩
abbrev S384x512 : Shape := ⟨2, ![384, 512]⟩
abbrev S384 : Shape := ⟨1, ![384]⟩
abbrev S16x2048 : Shape := ⟨2, ![16, 2048]⟩
abbrev S16x1 : Shape := ⟨2, ![16, 1]⟩
abbrev S1x2048 : Shape := ⟨2, ![1, 2048]⟩
abbrev S1x1x1 : Shape := ⟨3, ![1, 1, 1]⟩

abbrev nBuf : Space → Nat
  | .hbm => 65
  | .vmem => 13
  | .smem => 0
  | _ => 0

abbrev bufTy : (tb : Table) → Fin (tcTables nBuf tb) → BufTy
  | .hbm, ⟨0, _⟩ => ⟨S64x2048x12, .f32⟩
  | .hbm, ⟨1, _⟩ => ⟨S48x12, .f32⟩
  | .hbm, ⟨2, _⟩ => ⟨S24x1x4, .f32⟩
  | .hbm, ⟨3, _⟩ => ⟨S24, .f32⟩
  | .hbm, ⟨4, _⟩ => ⟨S36x24, .f32⟩
  | .hbm, ⟨5, _⟩ => ⟨S24x4, .f32⟩
  | .hbm, ⟨6, _⟩ => ⟨S24, .f32⟩
  | .hbm, ⟨7, _⟩ => ⟨S24x16, .f32⟩
  | .hbm, ⟨8, _⟩ => ⟨S24, .f32⟩
  | .hbm, ⟨9, _⟩ => ⟨S12x24, .f32⟩
  | .hbm, ⟨10, _⟩ => ⟨S1x12, .f32⟩
  | .hbm, ⟨11, _⟩ => ⟨S1, .f32⟩
  | .hbm, ⟨12, _⟩ => ⟨S64x2048x12, .bf16⟩
  | .hbm, ⟨13, _⟩ => ⟨S64x12x2048, .bf16⟩
  | .hbm, ⟨14, _⟩ => ⟨S24x4, .f32⟩
  | .hbm, ⟨15, _⟩ => ⟨S24x1, .f32⟩
  | .hbm, ⟨16, _⟩ => ⟨S24, .f32⟩
  | .hbm, ⟨17, _⟩ => ⟨S24x4, .f32⟩
  | .hbm, ⟨18, _⟩ => ⟨S24x1, .f32⟩
  | .hbm, ⟨19, _⟩ => ⟨S24, .f32⟩
  | .hbm, ⟨20, _⟩ => ⟨S24x4, .f32⟩
  | .hbm, ⟨21, _⟩ => ⟨S24x1, .f32⟩
  | .hbm, ⟨22, _⟩ => ⟨S24, .f32⟩
  | .hbm, ⟨23, _⟩ => ⟨S24x4, .f32⟩
  | .hbm, ⟨24, _⟩ => ⟨S24x1, .f32⟩
  | .hbm, ⟨25, _⟩ => ⟨S24, .f32⟩
  | .hbm, ⟨26, _⟩ => ⟨S24x1, .f32⟩
  | .hbm, ⟨27, _⟩ => ⟨S24, .f32⟩
  | .hbm, ⟨28, _⟩ => ⟨S24, .f32⟩
  | .hbm, ⟨29, _⟩ => ⟨S24, .f32⟩
  | .hbm, ⟨30, _⟩ => ⟨S24x1, .f32⟩
  | .hbm, ⟨31, _⟩ => ⟨S24x128, .f32⟩
  | .hbm, ⟨32, _⟩ => ⟨S24x1, .f32⟩
  | .hbm, ⟨33, _⟩ => ⟨S24x128, .f32⟩
  | .hbm, ⟨34, _⟩ => ⟨S24x1, .f32⟩
  | .hbm, ⟨35, _⟩ => ⟨S24x128, .f32⟩
  | .hbm, ⟨36, _⟩ => ⟨S24x1, .f32⟩
  | .hbm, ⟨37, _⟩ => ⟨S24x128, .f32⟩
  | .hbm, ⟨38, _⟩ => ⟨S24x1, .f32⟩
  | .hbm, ⟨39, _⟩ => ⟨S24x128, .f32⟩
  | .hbm, ⟨40, _⟩ => ⟨S24x1, .f32⟩
  | .hbm, ⟨41, _⟩ => ⟨S24x128, .f32⟩
  | .hbm, ⟨42, _⟩ => ⟨S24x1, .f32⟩
  | .hbm, ⟨43, _⟩ => ⟨S24x128, .f32⟩
  | .hbm, ⟨44, _⟩ => ⟨S24x896, .f32⟩
  | .hbm, ⟨45, _⟩ => ⟨S1x24x1x896, .f32⟩
  | .hbm, ⟨46, _⟩ => ⟨S16x24x1x896, .f32⟩
  | .hbm, ⟨47, _⟩ => ⟨S384x896, .f32⟩
  | .hbm, ⟨48, _⟩ => ⟨S_, .f32⟩
  | .hbm, ⟨49, _⟩ => ⟨S512x512, .f32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S24x1, .f32⟩
  | .hbm, ⟨60, _⟩ => ⟨S1x24x1x1, .f32⟩
  | .hbm, ⟨61, _⟩ => ⟨S16x24x1x1, .f32⟩
  | .hbm, ⟨62, _⟩ => ⟨S384x1, .f32⟩
  | .hbm, ⟨63, _⟩ => ⟨S1x1, .f32⟩
  | .hbm, ⟨64, _⟩ => ⟨S64x1x1, .f32⟩
  | .local _ .vmem, ⟨0, _⟩ => ⟨S16x12x2048, .bf16⟩
  | .local _ .vmem, ⟨1, _⟩ => ⟨S16x12x2048, .bf16⟩
  | .local _ .vmem, ⟨2, _⟩ => ⟨S48x12, .f32⟩
  | .local _ .vmem, ⟨3, _⟩ => ⟨S384x896, .f32⟩
  | .local _ .vmem, ⟨4, _⟩ => ⟨S36x24, .f32⟩
  | .local _ .vmem, ⟨5, _⟩ => ⟨S24x4, .f32⟩
  | .local _ .vmem, ⟨6, _⟩ => ⟨S512x512, .f32⟩
  | .local _ .vmem, ⟨7, _⟩ => ⟨S384x1, .f32⟩
  | .local _ .vmem, ⟨8, _⟩ => ⟨S12x24, .f32⟩
  | .local _ .vmem, ⟨9, _⟩ => ⟨S1x12, .f32⟩
  | .local _ .vmem, ⟨10, _⟩ => ⟨S1x1, .f32⟩
  | .local _ .vmem, ⟨11, _⟩ => ⟨S16x1x1, .f32⟩
  | .local _ .vmem, ⟨12, _⟩ => ⟨S16x1x1, .f32⟩
  | _, _ => ⟨S64x2048x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_cst : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x12x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x2048x12 : Shape := ⟨3, ![64, 2048, 12]⟩
abbrev S48x12 : Shape := ⟨2, ![48, 12]⟩
abbrev S24x1x4 : Shape := ⟨3, ![24, 1, 4]⟩
abbrev S24 : Shape := ⟨1, ![24]⟩
abbrev S36x24 : Shape := ⟨2, ![36, 24]⟩
abbrev S24x4 : Shape := ⟨2, ![24, 4]⟩
abbrev S24x16 : Shape := ⟨2, ![24, 16]⟩
abbrev S12x24 : Shape := ⟨2, ![12, 24]⟩
abbrev S1x12 : Shape := ⟨2, ![1, 12]⟩
abbrev S1 : Shape := ⟨1, ![1]⟩
abbrev S64x2048x48 : Shape := ⟨3, ![64, 2048, 48]⟩
abbrev S64x2048x24 : Shape := ⟨3, ![64, 2048, 24]⟩
abbrev S_ : Shape := ⟨0, ![]⟩
abbrev S64x2051x24 : Shape := ⟨3, ![64, 2051, 24]⟩
abbrev S24x1x1 : Shape := ⟨3, ![24, 1, 1]⟩
abbrev S1x1x24 : Shape := ⟨3, ![1, 1, 24]⟩
abbrev S64x2048x36 : Shape := ⟨3, ![64, 2048, 36]⟩
abbrev S64x2048x4 : Shape := ⟨3, ![64, 2048, 4]⟩
abbrev S64x2048x16 : Shape := ⟨3, ![64, 2048, 16]⟩
abbrev S64x2048x24x1 : Shape := ⟨4, ![64, 2048, 24, 1]⟩
abbrev S1x1x24x16 : Shape := ⟨4, ![1, 1, 24, 16]⟩
abbrev S64x2048x24x16 : Shape := ⟨4, ![64, 2048, 24, 16]⟩
abbrev S64x2048x1x16 : Shape := ⟨4, ![64, 2048, 1, 16]⟩
abbrev S64x24x16 : Shape := ⟨3, ![64, 24, 16]⟩
abbrev S2048x64x24x16 : Shape := ⟨4, ![2048, 64, 24, 16]⟩
abbrev S2048x64x16 : Shape := ⟨3, ![2048, 64, 16]⟩
abbrev S2048x64x24 : Shape := ⟨3, ![2048, 64, 24]⟩
abbrev S1x64x24x16 : Shape := ⟨4, ![1, 64, 24, 16]⟩
abbrev S1x64x16 : Shape := ⟨3, ![1, 64, 16]⟩
abbrev S64x16 : Shape := ⟨2, ![64, 16]⟩
abbrev S64x24 : Shape := ⟨2, ![64, 24]⟩
abbrev S1x64x24 : Shape := ⟨3, ![1, 64, 24]⟩
abbrev S64x1x12 : Shape := ⟨3, ![64, 1, 12]⟩
abbrev S64x12 : Shape := ⟨2, ![64, 12]⟩
abbrev S12x1 : Shape := ⟨2, ![12, 1]⟩
abbrev S64x1 : Shape := ⟨2, ![64, 1]⟩
abbrev S1x1 : Shape := ⟨2, ![1, 1]⟩
abbrev S64x1x1 : Shape := ⟨3, ![64, 1, 1]⟩

abbrev nBuf : Space → Nat
  | .hbm => 161
  | .vmem => 0
  | .smem => 0
  | _ => 0

abbrev hbmTy0_0 (i : Nat) : BufTy := match i % 128 with
  | 0 => ⟨S64x2048x12, .f32⟩
  | 1 => ⟨S48x12, .f32⟩
  | 2 => ⟨S24x1x4, .f32⟩
  | 3 => ⟨S24, .f32⟩
  | 4 => ⟨S36x24, .f32⟩
  | 5 => ⟨S24x4, .f32⟩
  | 6 => ⟨S24, .f32⟩
  | 7 => ⟨S24x16, .f32⟩
  | 8 => ⟨S24, .f32⟩
  | 9 => ⟨S12x24, .f32⟩
  | 10 => ⟨S1x12, .f32⟩
  | 11 => ⟨S1, .f32⟩
  | 12 => ⟨S64x2048x48, .f32⟩
  | 13 => ⟨S64x2048x24, .f32⟩
  | 14 => ⟨S64x2048x24, .f32⟩
  | 15 => ⟨S_, .i32⟩
  | 16 => ⟨S_, .f32⟩
  | 17 => ⟨S64x2051x24, .f32⟩
  | 18 => ⟨S64x2048x24, .f32⟩
  | 19 => ⟨S24x1x1, .f32⟩
  | 20 => ⟨S24, .f32⟩
  | 21 => ⟨S1x1x24, .f32⟩
  | 22 => ⟨S64x2048x24, .f32⟩
  | 23 => ⟨S64x2048x24, .f32⟩
  | 24 => ⟨S_, .f32⟩
  | 25 => ⟨S64x2048x24, .f32⟩
  | 26 => ⟨S64x2048x24, .f32⟩
  | 27 => ⟨S64x2048x24, .f32⟩
  | 28 => ⟨S24x1x1, .f32⟩
  | 29 => ⟨S24, .f32⟩
  | 30 => ⟨S1x1x24, .f32⟩
  | 31 => ⟨S64x2048x24, .f32⟩
  | 32 => ⟨S64x2048x24, .f32⟩
  | 33 => ⟨S64x2048x24, .f32⟩
  | 34 => ⟨S64x2048x24, .f32⟩
  | 35 => ⟨S24x1x1, .f32⟩
  | 36 => ⟨S24, .f32⟩
  | 37 => ⟨S1x1x24, .f32⟩
  | 38 => ⟨S64x2048x24, .f32⟩
  | 39 => ⟨S64x2048x24, .f32⟩
  | 40 => ⟨S64x2048x24, .f32⟩
  | 41 => ⟨S64x2048x24, .f32⟩
  | 42 => ⟨S24x1x1, .f32⟩
  | 43 => ⟨S24, .f32⟩
  | 44 => ⟨S1x1x24, .f32⟩
  | 45 => ⟨S64x2048x24, .f32⟩
  | 46 => ⟨S64x2048x24, .f32⟩
  | 47 => ⟨S64x2048x24, .f32⟩
  | 48 => ⟨S1x1x24, .f32⟩
  | 49 => ⟨S64x2048x24, .f32⟩
  | 50 => ⟨S64x2048x24, .f32⟩
  | 51 => ⟨S64x2048x24, .f32⟩
  | 52 => ⟨S64x2048x24, .f32⟩
  | 53 => ⟨S_, .f32⟩
  | 54 => ⟨S64x2048x24, .f32⟩
  | 55 => ⟨S64x2048x24, .f32⟩
  | 56 => ⟨S_, .f32⟩
  | 57 => ⟨S64x2048x24, .f32⟩
  | 58 => ⟨S64x2048x24, .f32⟩
  | 59 => ⟨S64x2048x24, .f32⟩
  | 60 => ⟨S64x2048x36, .f32⟩
  | 61 => ⟨S64x2048x4, .f32⟩
  | 62 => ⟨S64x2048x16, .f32⟩
  | 63 => ⟨S64x2048x16, .f32⟩
  | 64 => ⟨S64x2048x24, .f32⟩
  | 65 => ⟨S1x1x24, .f32⟩
  | 66 => ⟨S64x2048x24, .f32⟩
  | 67 => ⟨S64x2048x24, .f32⟩
  | 68 => ⟨S_, .f32⟩
  | 69 => ⟨S64x2048x24, .f32⟩
  | 70 => ⟨S64x2048x24, .f32⟩
  | 71 => ⟨S64x2048x24, .f32⟩
  | 72 => ⟨S64x2048x24, .f32⟩
  | 73 => ⟨S64x2048x24, .i1⟩
  | 74 => ⟨S64x2048x24, .f32⟩
  | 75 => ⟨S64x2048x24, .f32⟩
  | 76 => ⟨S64x2048x24, .f32⟩
  | 77 => ⟨S64x2048x24, .f32⟩
  | 78 => ⟨S64x2048x24, .f32⟩
  | 79 => ⟨S64x2048x24, .f32⟩
  | 80 => ⟨S64x2048x24, .f32⟩
  | 81 => ⟨S64x2048x24, .f32⟩
  | 82 => ⟨S24x16, .f32⟩
  | 83 => ⟨S24x16, .f32⟩
  | 84 => ⟨S64x2048x24x1, .f32⟩
  | 85 => ⟨S1x1x24x16, .f32⟩
  | 86 => ⟨S64x2048x24x16, .f32⟩
  | 87 => ⟨S64x2048x24x16, .f32⟩
  | 88 => ⟨S64x2048x24x16, .f32⟩
  | 89 => ⟨S64x2048x24x16, .f32⟩
  | 90 => ⟨S64x2048x24x1, .f32⟩
  | 91 => ⟨S64x2048x1x16, .f32⟩
  | 92 => ⟨S64x2048x24x16, .f32⟩
  | 93 => ⟨S64x2048x24x16, .f32⟩
  | 94 => ⟨S64x2048x24x16, .f32⟩
  | 95 => ⟨S64x2048x24x1, .f32⟩
  | 96 => ⟨S64x2048x24x16, .f32⟩
  | 97 => ⟨S64x2048x24x16, .f32⟩
  | 98 => ⟨S_, .f32⟩
  | 99 => ⟨S64x24x16, .f32⟩
  | 100 => ⟨S2048x64x24x16, .f32⟩
  | 101 => ⟨S2048x64x24x16, .f32⟩
  | 102 => ⟨S2048x64x16, .f32⟩
  | 103 => ⟨S_, .f32⟩
  | 104 => ⟨S2048x64x24, .f32⟩
  | 105 => ⟨S_, .i32⟩
  | 106 => ⟨S2048x64x24x16, .f32⟩
  | 107 => ⟨S2048x64x24x16, .f32⟩
  | 108 => ⟨S2048x64x16, .f32⟩
  | 109 => ⟨S_, .i32⟩
  | 110 => ⟨S64x24x16, .f32⟩
  | 111 => ⟨S2048x64x24, .f32⟩
  | 112 => ⟨S_, .i32⟩
  | 113 => ⟨S_, .i1⟩
  | 114 => ⟨S_, .i32⟩
  | 115 => ⟨S_, .i32⟩
  | 116 => ⟨S_, .i32⟩
  | 117 => ⟨S1x64x24x16, .f32⟩
  | 118 => ⟨S64x24x16, .f32⟩
  | 119 => ⟨S_, .i32⟩
  | 120 => ⟨S_, .i32⟩
  | 121 => ⟨S_, .i32⟩
  | 122 => ⟨S1x64x24x16, .f32⟩
  | 123 => ⟨S64x24x16, .f32⟩
  | 124 => ⟨S_, .i32⟩
  | 125 => ⟨S_, .i32⟩
  | 126 => ⟨S1x64x16, .f32⟩
  | 127 => ⟨S64x16, .f32⟩
  | _ => ⟨S64x2048x12, .f32⟩

abbrev hbmTy0_1 (i : Nat) : BufTy := match i % 128 with
  | 0 => ⟨S64x24x16, .f32⟩
  | 1 => ⟨S64x24x16, .f32⟩
  | 2 => ⟨S64x24, .f32⟩
  | 3 => ⟨S1x64x24, .f32⟩
  | 4 => ⟨S_, .i32⟩
  | 5 => ⟨S_, .i32⟩
  | 6 => ⟨S2048x64x24, .f32⟩
  | 7 => ⟨S_, .i32⟩
  | 8 => ⟨S_, .i32⟩
  | 9 => ⟨S64x2048x24, .f32⟩
  | 10 => ⟨S1x1x24, .f32⟩
  | 11 => ⟨S64x2048x24, .f32⟩
  | 12 => ⟨S64x2048x24, .f32⟩
  | 13 => ⟨S64x2048x24, .f32⟩
  | 14 => ⟨S64x2048x24, .f32⟩
  | 15 => ⟨S64x2048x24, .f32⟩
  | 16 => ⟨S_, .f32⟩
  | 17 => ⟨S64x2048x24, .f32⟩
  | 18 => ⟨S64x2048x24, .f32⟩
  | 19 => ⟨S_, .f32⟩
  | 20 => ⟨S64x2048x24, .f32⟩
  | 21 => ⟨S64x2048x24, .f32⟩
  | 22 => ⟨S64x2048x24, .f32⟩
  | 23 => ⟨S64x2048x24, .f32⟩
  | 24 => ⟨S64x2048x12, .f32⟩
  | 25 => ⟨S64x1x12, .f32⟩
  | 26 => ⟨S64x12, .f32⟩
  | 27 => ⟨S12x1, .f32⟩
  | 28 => ⟨S64x1, .f32⟩
  | 29 => ⟨S1x1, .f32⟩
  | 30 => ⟨S64x1, .f32⟩
  | 31 => ⟨S64x1, .f32⟩
  | 32 => ⟨S64x1x1, .f32⟩
  | _ => ⟨S64x2048x12, .f32⟩

abbrev hbmTy (i : Nat) : BufTy := match i / 128 with
  | 0 => hbmTy0_0 i
  | 1 => hbmTy0_1 i
  | _ => ⟨S64x2048x12, .f32⟩

abbrev bufTy : (tb : Table) → Fin (tcTables nBuf tb) → BufTy
  | .hbm, ⟨i, _⟩ => hbmTy i
  | _, _ => ⟨S64x2048x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_3 : Ref sig .tc := ⟨.hbm, 103, rfl⟩
abbrev main_v72 : Ref sig .tc := ⟨.hbm, 104, rfl⟩
abbrev main_c_4 : Ref sig .tc := ⟨.hbm, 105, rfl⟩
abbrev main_v73_0 : Ref sig .tc := ⟨.hbm, 106, rfl⟩
abbrev main_v73_1 : Ref sig .tc := ⟨.hbm, 107, rfl⟩
abbrev main_v73_2 : Ref sig .tc := ⟨.hbm, 108, rfl⟩
abbrev main_v73_3 : Ref sig .tc := ⟨.hbm, 109, rfl⟩
abbrev main_v73_4 : Ref sig .tc := ⟨.hbm, 110, rfl⟩
abbrev main_v73_5 : Ref sig .tc := ⟨.hbm, 111, rfl⟩
abbrev main_while0c_c_12 : Ref sig .tc := ⟨.hbm, 112, rfl⟩
abbrev main_while0c_v96 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_v0 : Ref sig .tc := ⟨.hbm, 117, rfl⟩
abbrev main_while0b_v96 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_v0 : Ref sig .tc := ⟨.hbm, 122, rfl⟩
abbrev main_while0b_v97 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_v0 : Ref sig .tc := ⟨.hbm, 126, rfl⟩
abbrev main_while0b_v98 : Ref sig .tc := ⟨.hbm, 127, rfl⟩
abbrev main_while0b_v99 : Ref sig .tc := ⟨.hbm, 128, rfl⟩
abbrev main_while0b_v100 : Ref sig .tc := ⟨.hbm, 129, rfl⟩
abbrev main_while0b_v101 : Ref sig .tc := ⟨.hbm, 130, rfl⟩
abbrev main_while0b_call5_v0 : Ref sig .tc := ⟨.hbm, 131, rfl⟩
abbrev main_while0b_call5_c : Ref sig .tc := ⟨.hbm, 132, rfl⟩
abbrev main_while0b_call5_c_0 : Ref sig .tc := ⟨.hbm, 133, rfl⟩
abbrev main_while0b_v102 : Ref sig .tc := ⟨.hbm, 134, rfl⟩
abbrev main_while0b_c_12 : Ref sig .tc := ⟨.hbm, 135, rfl⟩
abbrev main_while0b_v103 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_5 : Ref sig .tc := ⟨.hbm, 144, rfl⟩
abbrev main_v81 : Ref sig .tc := ⟨.hbm, 145, rfl⟩
abbrev main_v82 : Ref sig .tc := ⟨.hbm, 146, rfl⟩
abbrev main_cst_6 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩

abbrev nD : Nat := 1
abbrev τ : Topo := Topo.v7x

variable {F : FTy → Type} [FloatOps F]

abbrev main_while0_count : Scf.Loop 32 := ⟨0#32, 2048#32, 1#32⟩
-- ==== Proof.Body.lean ====
/- The kernel body's value, written once per GROUP (a batch row of the block) instead of once per printed statement:
   every stage of the body is a function of the group's number, and the generated payloads are those functions at
   0, …, 15 (`out_eq`). Hand-written, untrusted. -/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Body

open Idealize.ShloMosaic Idealize.SL.Sem Cert.KernelIdeal Cert.KernelIdeal.Gen

variable {F : FTy → Type} [FloatOps F]

/-- Sixteen [24,2048] pieces stacked along the rows: group `g` fills rows 24g … 24g+23. -/
def stack (f : Fin 16 → FVec F S24x2048 .f32) : FVec F S384x2048 .f32 :=
  concatenate S384x2048 0 [⟨S24x2048, f ⟨0, by decide⟩⟩, ⟨S24x2048, f ⟨1, by decide⟩⟩, ⟨S24x2048, f ⟨2, by decide⟩⟩, ⟨S24x2048, f ⟨3, by decide⟩⟩, ⟨S24x2048, f ⟨4, by decide⟩⟩, ⟨S24x2048, f ⟨5, by decide⟩⟩, ⟨S24x2048, f ⟨6, by decide⟩⟩, ⟨S24x2048, f ⟨7, by decide⟩⟩, ⟨S24x2048, f ⟨8, by decide⟩⟩, ⟨S24x2048, f ⟨9, by decide⟩⟩, ⟨S24x2048, f ⟨10, by decide⟩⟩, ⟨S24x2048, f ⟨11, by decide⟩⟩, ⟨S24x2048, f ⟨12, by decide⟩⟩, ⟨S24x2048, f ⟨13, by decide⟩⟩, ⟨S24x2048, f ⟨14, by decide⟩⟩, ⟨S24x2048, f ⟨15, by decide⟩⟩] concatenates_S24x2048_S24x2048_S24x2048_S24x2048_S24x2048_S24x2048_S24x2048_S24x2048_S24x2048_S24x2048_S24x2048_S24x2048_S24x2048_S24x2048_S24x2048_S24x2048_S384x2048_d0

/-- Sixteen [24,1] columns side by side. -/
def cols24 (f : Fin 16 → FVec F S24x1 .f32) : FVec F S24x16 .f32 :=
  concatenate S24x16 1 [⟨S24x1, f ⟨0, by decide⟩⟩, ⟨S24x1, f ⟨1, by decide⟩⟩, ⟨S24x1, f ⟨2, by decide⟩⟩, ⟨S24x1, f ⟨3, by decide⟩⟩, ⟨S24x1, f ⟨4, by decide⟩⟩, ⟨S24x1, f ⟨5, by decide⟩⟩, ⟨S24x1, f ⟨6, by decide⟩⟩, ⟨S24x1, f ⟨7, by decide⟩⟩, ⟨S24x1, f ⟨8, by decide⟩⟩, ⟨S24x1, f ⟨9, by decide⟩⟩, ⟨S24x1, f ⟨10, by decide⟩⟩, ⟨S24x1, f ⟨11, by decide⟩⟩, ⟨S24x1, f ⟨12, by decide⟩⟩, ⟨S24x1, f ⟨13, by decide⟩⟩, ⟨S24x1, f ⟨14, by decide⟩⟩, ⟨S24x1, f ⟨15, by decide⟩⟩] concatenates_S24x1_S24x1_S24x1_S24x1_S24x1_S24x1_S24x1_S24x1_S24x1_S24x1_S24x1_S24x1_S24x1_S24x1_S24x1_S24x1_S24x16_d1

/-- Sixteen [12,1] columns side by side. -/
def cols12 (f : Fin 16 → FVec F S12x1 .bf16) : FVec F S12x16 .bf16 :=
  concatenate S12x16 1 [⟨S12x1, f ⟨0, by decide⟩⟩, ⟨S12x1, f ⟨1, by decide⟩⟩, ⟨S12x1, f ⟨2, by decide⟩⟩, ⟨S12x1, f ⟨3, by decide⟩⟩, ⟨S12x1, f ⟨4, by decide⟩⟩, ⟨S12x1, f ⟨5, by decide⟩⟩, ⟨S12x1, f ⟨6, by decide⟩⟩, ⟨S12x1, f ⟨7, by decide⟩⟩, ⟨S12x1, f ⟨8, by decide⟩⟩, ⟨S12x1, f ⟨9, by decide⟩⟩, ⟨S12x1, f ⟨10, by decide⟩⟩, ⟨S12x1, f ⟨11, by decide⟩⟩, ⟨S12x1, f ⟨12, by decide⟩⟩, ⟨S12x1, f ⟨13, by decide⟩⟩, ⟨S12x1, f ⟨14, by decide⟩⟩, ⟨S12x1, f ⟨15, by decide⟩⟩] concatenates_S12x1_S12x1_S12x1_S12x1_S12x1_S12x1_S12x1_S12x1_S12x1_S12x1_S12x1_S12x1_S12x1_S12x1_S12x1_S12x1_S12x16_d1

/-- A [384,128] column block repeated along the lanes. -/
def lanes (v : Vec F S384x128 .f32) : FVec F S384x2048 .f32 :=
  concatenate S384x2048 1 [⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩, ⟨S384x128, shapeCast S384x128 v shapeCasts_S384x128_S384x128⟩] concatenates_S384x128_S384x128_S384x128_S384x128_S384x128_S384x128_S384x128_S384x128_S384x128_S384x128_S384x128_S384x128_S384x128_S384x128_S384x128_S384x128_S384x2048_d1

/-- Group `g`'s row of the input block, one time step per lane. -/
theorem xrow_inb (g : Fin 16) : ∀ a, (![g.val, 0, 0] : Fin 3 → Nat) a + S1x12x2048.size a ≤ S16x12x2048.size a := by
  revert g; decide
/-- A group's rows lie inside the stacked rows. -/
theorem rows_slices (g : Fin 16) : S384x2048.Slices ![24 * g.val, 0] S24x2048 := by revert g; decide
/-- The same for a single column. -/
theorem rows1_slices (g : Fin 16) : S384x1.Slices ![24 * g.val, 0] S24x1 := by revert g; decide
/-- A group's column of a [24,16] matrix. -/
theorem col24_slices (g : Fin 16) : S24x16.Slices ![0, g.val] S24x1 := by revert g; decide
/-- A group's column of a [16,16] matrix. -/
theorem col16_slices (g : Fin 16) : S16x16.Slices ![0, g.val] S16x1 := by revert g; decide
/-- A state's row of a [16,2048] matrix. -/
theorem state_slices (s : Fin 16) : S16x2048.Slices ![s.val, 0] S1x2048 := by revert s; decide

/-- Group `g`'s [12,2048] slab of the input block. -/
def slab (x0 : Vec F S16x12x2048 .bf16) (g : Fin 16) : FVec F S12x2048 .bf16 :=
  shapeCast S12x2048 (View.ld x0 (Rect.unit (s := S16x12x2048) ![g.val, 0, 0] S1x12x2048.size (xrow_inb g)))
    shapeCasts_S1x12x2048_S12x2048

/-- The first half of the input projection, stacked. -/
def xin (x0 : Vec F S16x12x2048 .bf16) (x1 : Vec F S48x12 .f32) : FVec F S384x2048 .f32 :=
  stack fun g => matmul dot_S24x12_S12x2048_S24x2048_1_0_0_1_n_n none (View.ld x1 r0_0)
    (extf .f32 (slab x0 g) bitsLt_bf16_f32) (constant S24x2048 .f32 0x00000000#32)

/-- The gate half of the input projection at the last step. -/
def zmat (x0 : Vec F S16x12x2048 .bf16) (x1 : Vec F S48x12 .f32) : FVec F S24x16 .f32 :=
  matmul dot_S24x12_S12x16_S24x16_1_0_0_1_n_n none (View.ld x1 r0_17)
    (extf .f32 (cols12 fun g => extractStridedSlice S12x1 ![0, 2047] (slab x0 g) slices_S12x2048_o0_2047_S12x1) bitsLt_bf16_f32)
    (constant S24x16 .f32 0x00000000#32)

/-- `v` times its sigmoid, as the body spells it. -/
def gate {s : Shape} (v : FVec F s .f32) : FVec F s .f32 :=
  mulf v (divf (broadcast s (Scalar.ofBits .f32 0x3F800000#32)) (addf (broadcast s (Scalar.ofBits .f32 0x3F800000#32))
    (exp (subf (broadcast s (Scalar.ofBits .f32 0x00000000#32)) v))))

/-- The stacked rows moved `k` steps later, zero before. -/
def delayed (k : BitVec 32) (v : FVec F S384x2048 .f32) : FVec F S384x2048 .f32 :=
  select (cmpi .sge (iota .tc S384x2048 32 [1] iota_S384x2048_d1_w32) (broadcast S384x2048 k))
    (dynamicRotate 1 k none v rotates_S384x2048_d1) (broadcast S384x2048 (Scalar.ofBits .f32 0x00000000#32))

/-- The convolution with its bias. -/
def conv (v : FVec F S384x2048 .f32) (x2 : Vec F S384x896 .f32) : FVec F S384x2048 .f32 :=
  addf (addf (addf (addf (mulf v (lanes (View.ld x2 r0_18))) (mulf (delayed 1#32 v) (lanes (View.ld x2 r0_19))))
    (mulf (delayed 2#32 v) (lanes (View.ld x2 r0_20)))) (mulf (delayed 3#32 v) (lanes (View.ld x2 r0_21)))) (lanes (View.ld x2 r0_22))

/-- The activated convolution. -/
def xc (x0 : Vec F S16x12x2048 .bf16) (x1 : Vec F S48x12 .f32) (x2 : Vec F S384x896 .f32) : FVec F S384x2048 .f32 :=
  gate (conv (xin x0 x1) x2)

/-- Step width and input coefficients of group `g`, projected from the activated rows `u`. -/
def xdbl (u : FVec F S384x2048 .f32) (x3 : Vec F S36x24 .f32) (g : Fin 16) : FVec F S20x2048 .f32 :=
  matmul dot_S20x24_S24x2048_S20x2048_1_0_0_1_n_n none (View.ld x3 r0_23)
    (extractStridedSlice S24x2048 ![24 * g.val, 0] u (rows_slices g)) (constant S20x2048 .f32 0x00000000#32)

/-- The last column of the activated rows. -/
def xcl (u : FVec F S384x2048 .f32) : FVec F S384x1 .f32 :=
  extractStridedSlice S384x1 ![0, 2047] u slices_S384x2048_o0_2047_S384x1

/-- The output coefficients at the last step, one column per group. -/
def clmat (u : FVec F S384x2048 .f32) (x3 : Vec F S36x24 .f32) : FVec F S16x16 .f32 :=
  matmul dot_S16x24_S24x16_S16x16_1_0_0_1_n_n none (View.ld x3 r0_24)
    (cols24 fun g => extractStridedSlice S24x1 ![24 * g.val, 0] (xcl u) (rows1_slices g)) (constant S16x16 .f32 0x00000000#32)

/-- The softplus the body spells. -/
def soft (v : FVec F S384x2048 .f32) : FVec F S384x2048 .f32 :=
  let z := broadcast S384x2048 (Scalar.ofBits (F := F) .f32 0x00000000#32)
  select (cmpf .one (subf v z) (subf v z)) (addf v z)
    (addf (maximumf v z) (log1p (exp (subf z (absf (subf v z))))))

/-- The step widths. -/
def dt (u : FVec F S384x2048 .f32) (x2 : Vec F S384x896 .f32) (x3 : Vec F S36x24 .f32) (x4 : Vec F S24x4 .f32) :
    FVec F S384x2048 .f32 :=
  soft (addf (stack fun g => matmul dot_S24x4_S4x2048_S24x2048_1_0_0_1_n_n none (View.ld x4 r0_25)
    (extractStridedSlice S4x2048 ![0, 0] (xdbl u x3 g) slices_S20x2048_o0_0_S4x2048) (constant S24x2048 .f32 0x00000000#32))
    (lanes (View.ld x2 r0_26)))

/-- A column repeated over a chunk's 512 lanes. -/
def carry (v : FVec F S384x1 .f32) : FVec F S384x512 .f32 :=
  let w := broadcastTo S384x128 (shapeCast S384x1 v shapeCasts_S384x1_S384x1) broadcasts_S384x1_S384x128
  concatenate S384x512 1 [⟨S384x128, w⟩, ⟨S384x128, w⟩, ⟨S384x128, w⟩, ⟨S384x128, w⟩] concatenates_S384x128_S384x128_S384x128_S384x128_S384x512_d1

/-- Inside a chunk: the sum of the later lanes, as a product with the triangular matrix. -/
def later (v : FVec F S384x512 .f32) (x5 : Vec F S512x512 .f32) : FVec F S384x512 .f32 :=
  matmul dot_S384x512_S512x512_S384x512_1_0_0_1_n_n none v
    (shapeCast S512x512 (View.ld x5 r0_27) shapeCasts_S512x512_S512x512) (constant S384x512 .f32 0x00000000#32)

/-- A chunk's total. -/
def total (v : FVec F S384x512 .f32) : FVec F S384x1 .f32 :=
  shapeCast S384x1 (multiReduction .add [1] S384 v 0x00000000#32 reduces_S384x512_S384 (.inl rfl) rfl) shapeCasts_S384_S384x1

/-- The four chunks of the lanes. -/
def chunk0 (d : FVec F S384x2048 .f32) : FVec F S384x512 .f32 :=
  extractStridedSlice S384x512 ![0, 0] d slices_S384x2048_o0_0_S384x512
@[inherit_doc chunk0] def chunk1 (d : FVec F S384x2048 .f32) : FVec F S384x512 .f32 :=
  extractStridedSlice S384x512 ![0, 512] d slices_S384x2048_o0_512_S384x512
@[inherit_doc chunk0] def chunk2 (d : FVec F S384x2048 .f32) : FVec F S384x512 .f32 :=
  extractStridedSlice S384x512 ![0, 1024] d slices_S384x2048_o0_1024_S384x512
@[inherit_doc chunk0] def chunk3 (d : FVec F S384x2048 .f32) : FVec F S384x512 .f32 :=
  extractStridedSlice S384x512 ![0, 1536] d slices_S384x2048_o0_1536_S384x512

/-- The sum of all later steps' widths, chunk by chunk. -/
def suffix (d : FVec F S384x2048 .f32) (x5 : Vec F S512x512 .f32) : FVec F S384x2048 .f32 :=
  concatenate S384x2048 1
    [⟨S384x512, addf (later (chunk0 d) x5) (carry (addf (addf (total (chunk3 d)) (total (chunk2 d))) (total (chunk1 d))))⟩,
     ⟨S384x512, addf (later (chunk1 d) x5) (carry (addf (total (chunk3 d)) (total (chunk2 d))))⟩,
     ⟨S384x512, addf (later (chunk2 d) x5) (carry (total (chunk3 d)))⟩,
     ⟨S384x512, later (chunk3 d) x5⟩] concatenates_S384x512_S384x512_S384x512_S384x512_S384x2048_d1

/-- The decay from each step to the end, first state. -/
def decay (d : FVec F S384x2048 .f32) (x2 : Vec F S384x896 .f32) (x5 : Vec F S512x512 .f32) : FVec F S384x2048 .f32 :=
  exp (mulf (suffix d x5) (lanes (View.ld x2 r0_28)))

/-- Input coefficients times the last step's output coefficients, group `g`. -/
def bmc (u : FVec F S384x2048 .f32) (x3 : Vec F S36x24 .f32) (g : Fin 16) : FVec F S16x2048 .f32 :=
  mulf (extractStridedSlice S16x2048 ![4, 0] (xdbl u x3 g) slices_S20x2048_o4_0_S16x2048)
    (broadcastTo S16x2048 (extractStridedSlice S16x1 ![0, g.val] (clmat u x3) (col16_slices g)) broadcasts_S16x1_S16x2048)

/-- State `s`'s coefficient over every stacked row. -/
def coef (u : FVec F S384x2048 .f32) (x3 : Vec F S36x24 .f32) (s : Fin 16) : FVec F S384x2048 .f32 :=
  stack fun g => broadcastTo S24x2048 (shapeCast S1x2048 (extractStridedSlice S1x2048 ![s.val, 0] (bmc u x3 g) (state_slices s))
    shapeCasts_S1x2048_S1x2048) broadcasts_S1x2048_S24x2048

/-- The polynomial in the decay, by Horner's rule from the highest state down to state 1. -/
def horner (c : Fin 16 → FVec F S384x2048 .f32) (e : FVec F S384x2048 .f32) : FVec F S384x2048 .f32 :=
  addf (c ⟨1, by decide⟩) (mulf (addf (c ⟨2, by decide⟩) (mulf (addf (c ⟨3, by decide⟩) (mulf (addf (c ⟨4, by decide⟩) (mulf (addf (c ⟨5, by decide⟩) (mulf (addf (c ⟨6, by decide⟩) (mulf (addf (c ⟨7, by decide⟩) (mulf (addf (c ⟨8, by decide⟩) (mulf (addf (c ⟨9, by decide⟩) (mulf (addf (c ⟨10, by decide⟩) (mulf (addf (c ⟨11, by decide⟩) (mulf (addf (c ⟨12, by decide⟩) (mulf (addf (c ⟨13, by decide⟩) (mulf (addf (c ⟨14, by decide⟩) (mulf (c ⟨15, by decide⟩) e)) e)) e)) e)) e)) e)) e)) e)) e)) e)) e)) e)) e)) e)

/-- The scan's last output with the direct term. -/
def ylast (u : FVec F S384x2048 .f32) (d : FVec F S384x2048 .f32) (x2 : Vec F S384x896 .f32) (x3 : Vec F S36x24 .f32)
    (x5 : Vec F S512x512 .f32) (x6 : Vec F S384x1 .f32) : FVec F S384x1 .f32 :=
  addf (shapeCast S384x1 (multiReduction .add [1] S384
      (mulf (mulf (mulf d u) (decay d x2 x5))
        (addf (coef u x3 ⟨0, by decide⟩) (mulf (horner (coef u x3) (decay d x2 x5)) (decay d x2 x5))))
      0x00000000#32 reduces_S384x2048_S384 (.inl rfl) rfl) shapeCasts_S384_S384x1)
    (mulf (xcl u) (shapeCast S384x1 (View.ld x6 r0_29) shapeCasts_S384x1_S384x1))

/-- What group `g` stores: the gated output through the two last projections. -/
def pred (y : FVec F S384x1 .f32) (z : FVec F S24x16 .f32) (x7 : Vec F S12x24 .f32) (x8 : Vec F S1x12 .f32)
    (x9 : Vec F S1x1 .f32) (g : Fin 16) : FVec F S1x1x1 .f32 :=
  shapeCast S1x1x1 (addf (matmul dot_S1x12_S12x1_S1x1_1_0_0_1_n_n none (View.ld x8 r0_31)
      (matmul dot_S12x24_S24x1_S12x1_1_0_0_1_n_n none (View.ld x7 r0_30)
        (mulf (extractStridedSlice S24x1 ![24 * g.val, 0] y (rows1_slices g))
          (gate (extractStridedSlice S24x1 ![0, g.val] z (col24_slices g)))) (constant S12x1 .f32 0x00000000#32))
      (constant S1x1 .f32 0x00000000#32))
    (shapeCast S1x1 (View.ld x9 r0_32) shapeCasts_S1x1_S1x1)) shapeCasts_S1x1_S1x1x1

section
variable (x0 : Vec F S16x12x2048 .bf16) (x1 : Vec F S48x12 .f32) (x2 : Vec F S384x896 .f32) (x3 : Vec F S36x24 .f32)
  (x4 : Vec F S24x4 .f32) (x5 : Vec F S512x512 .f32) (x6 : Vec F S384x1 .f32) (x7 : Vec F S12x24 .f32)
  (x8 : Vec F S1x12 .f32) (x9 : Vec F S1x1 .f32)

/-- The body's last gate column is `zmat`. -/
theorem pay245_eq : k0_pay245 x0 x1 x2 x3 x4 x5 x6 x7 x8 x9 = zmat x0 x1 := rfl
/-- The scan's last output is `ylast` of the activated rows and the step widths. -/
theorem pay308_eq : k0_pay308 x0 x1 x2 x3 x4 x5 x6 x7 x8 x9
    = ylast (xc x0 x1 x2) (dt (xc x0 x1 x2) x2 x3 x4) x2 x3 x5 x6 := rfl

/-- A group's row lies inside the output block. -/
theorem outrow_inb (k : Fin 16) : ∀ a, (![15 - k.val, 0, 0] : Fin 3 → Nat) a + S1x1x1.size a ≤ S16x1x1.size a := by
  revert k; decide

/-- The stored block as one family of pieces over the groups, last group first. -/
theorem out_pieces : out0_10 x0 x1 x2 x3 x4 x5 x6 x7 x8 x9
    = View.canon (List.ofFn fun k : Fin 16 =>
        (⟨Rect.unit (s := S16x1x1) ![15 - k.val, 0, 0] S1x1x1.size (outrow_inb k),
          pred (ylast (xc x0 x1 x2) (dt (xc x0 x1 x2) x2 x3 x4) x2 x3 x5 x6) (zmat x0 x1) x7 x8 x9 ⟨15 - k.val, by omega⟩⟩ :
          View.Piece (Elt F) S16x1x1 .f32)) := rfl

/-- The stored block at group `g`. -/
theorem out_eq (g : Fin 16) : out0_10 x0 x1 x2 x3 x4 x5 x6 x7 x8 x9 (ix3 g 0 0)
    = pred (ylast (xc x0 x1 x2) (dt (xc x0 x1 x2) x2 x3 x4) x2 x3 x5 x6) (zmat x0 x1) x7 x8 x9 g (ix3 0 0 0) := by
  rw [out_pieces]
  refine View.canon_ofFn_unit_eq_of_forall (S := S16x1x1) _ _ _ _ _ _ ⟨⟨15 - g.val, by omega⟩, ?_⟩ ?_
  · intro a
    match a with
    | ⟨0, _⟩ => exact ⟨show 15 - (15 - g.val) ≤ g.val by omega, show g.val < 15 - (15 - g.val) + 1 by omega⟩
    | ⟨1, _⟩ => exact ⟨Nat.le_refl 0, Nat.zero_lt_one⟩
    | ⟨2, _⟩ => exact ⟨Nat.le_refl 0, Nat.zero_lt_one⟩
  · intro k x hx
    have hx0 : x = ix3 (0 : Fin 1) (0 : Fin 1) (0 : Fin 1) := funext fun a => match a with
      | ⟨0, _⟩ => Subsingleton.elim (α := Fin 1) _ _
      | ⟨1, _⟩ => Subsingleton.elim (α := Fin 1) _ _
      | ⟨2, _⟩ => Subsingleton.elim (α := Fin 1) _ _
    subst hx0
    have hk : (⟨15 - k.val, by omega⟩ : Fin 16) = g := Fin.ext (show 15 - k.val = g.val from (hx 0).symm)
    rw [hk]

end
end Cert.KernelIdeal.Body

end
-- ==== Proof.Spec.lean ====
/- What the program computes for one batch row, stated over the extended reals and plain index functions: the shared
   vocabulary of the two sides' value proofs. Hand-written, untrusted. -/
module

public import Idealize.ShloMosaic.Lib.Pointwise

@[expose] public section

noncomputable section

namespace Cert.Ssm

open Idealize.ShloMosaic

/-- A value times its sigmoid. -/
def silu (v : EReal) : EReal := v * Ideal.div 1 (1 + Ideal.exp (-v))

/-- The softplus, in the overflow-free spelling both programs use. -/
def soft (v : EReal) : EReal := max v 0 + Ideal.log1p (Ideal.exp (-FloatOps.absf (F := Ideal) (φ := .f32) v))

/-- A row moved `k` steps later, zero before. -/
def back (k : ℕ) (f : Fin 2048 → EReal) (t : Fin 2048) : EReal :=
  if k ≤ t.val then f ⟨t.val - k, by omega⟩ else 0

/-- The first half of the input projection: channel `d` at step `t`. -/
def xin (W : Fin 48 → Fin 12 → EReal) (X : Fin 2048 → Fin 12 → EReal) (d : Fin 24) (t : Fin 2048) : EReal :=
  ∑ k : Fin 12, W ⟨d.val, by omega⟩ k * X t k

/-- The gate half of the input projection, at the last step. -/
def zlast (W : Fin 48 → Fin 12 → EReal) (X : Fin 2048 → Fin 12 → EReal) (d : Fin 24) : EReal :=
  ∑ k : Fin 12, W ⟨24 + d.val, by omega⟩ k * X 2047 k

/-- The causal four-tap convolution of each channel, with its bias. -/
def conv (w : Fin 24 → Fin 4 → EReal) (b : Fin 24 → EReal) (v : Fin 24 → Fin 2048 → EReal) (d : Fin 24) (t : Fin 2048) : EReal :=
  v d t * w d 3 + back 1 (v d) t * w d 2 + back 2 (v d) t * w d 1 + back 3 (v d) t * w d 0 + b d

/-- The second projection: row `j` at step `t`. -/
def proj (P : Fin 36 → Fin 24 → EReal) (u : Fin 24 → Fin 2048 → EReal) (j : Fin 36) (t : Fin 2048) : EReal :=
  ∑ d : Fin 24, P j d * u d t

/-- The step width of channel `d` at step `t`. -/
def width (Q : Fin 24 → Fin 4 → EReal) (b : Fin 24 → EReal) (p : Fin 36 → Fin 2048 → EReal) (d : Fin 24) (t : Fin 2048) : EReal :=
  soft (∑ j : Fin 4, Q d j * p ⟨j.val, by omega⟩ t + b d)

/-- The last output through the gate and the two last projections. -/
def head (ow : Fin 12 → Fin 24 → EReal) (fw : Fin 12 → EReal) (fb : EReal) (y z : Fin 24 → EReal) : EReal :=
  ∑ o : Fin 12, fw o * (∑ d : Fin 24, ow o d * (y d * silu (z d))) + fb

/-- The sum of a row over all later steps. -/
def later (f : Fin 2048 → EReal) (t : Fin 2048) : EReal := ∑ u : Fin 2048, if t < u then f u else 0

/-- A polynomial by Horner's rule. -/
def poly : (n : ℕ) → (Fin n → EReal) → EReal → EReal
  | 0, _, _ => 0
  | n + 1, c, e => c 0 + poly n (fun i => c i.succ) e * e

/-- The parameters of the block. -/
structure Weights where
  /-- input projection -/
  W : Fin 48 → Fin 12 → EReal
  /-- convolution taps -/
  tap : Fin 24 → Fin 4 → EReal
  /-- convolution bias -/
  bias : Fin 24 → EReal
  /-- second projection -/
  P : Fin 36 → Fin 24 → EReal
  /-- step width projection -/
  Q : Fin 24 → Fin 4 → EReal
  /-- step width bias -/
  db : Fin 24 → EReal
  /-- logarithm of minus the decay rates -/
  L : Fin 24 → Fin 16 → EReal
  /-- direct term -/
  D : Fin 24 → EReal
  /-- output projection -/
  ow : Fin 12 → Fin 24 → EReal
  /-- last projection -/
  fw : Fin 12 → EReal
  /-- last bias -/
  fb : EReal

/-- The parameters held by the eleven argument arrays. -/
def weights (a1 : (⟨2, ![48, 12]⟩ : Shape).Idx → EReal) (a2 : (⟨3, ![24, 1, 4]⟩ : Shape).Idx → EReal)
    (a3 : (⟨1, ![24]⟩ : Shape).Idx → EReal) (a4 : (⟨2, ![36, 24]⟩ : Shape).Idx → EReal)
    (a5 : (⟨2, ![24, 4]⟩ : Shape).Idx → EReal) (a6 : (⟨1, ![24]⟩ : Shape).Idx → EReal)
    (a7 : (⟨2, ![24, 16]⟩ : Shape).Idx → EReal) (a8 : (⟨1, ![24]⟩ : Shape).Idx → EReal)
    (a9 : (⟨2, ![12, 24]⟩ : Shape).Idx → EReal) (a10 : (⟨2, ![1, 12]⟩ : Shape).Idx → EReal)
    (a11 : (⟨1, ![1]⟩ : Shape).Idx → EReal) : Weights where
  W a b := a1 (ix2 a b)
  tap d j := a2 (ix3 d 0 j)
  bias d := a3 (ix1 d)
  P a b := a4 (ix2 a b)
  Q a b := a5 (ix2 a b)
  db d := a6 (ix1 d)
  L d s := a7 (ix2 d s)
  D d := a8 (ix1 d)
  ow a b := a9 (ix2 a b)
  fw a := a10 (ix2 0 a)
  fb := a11 (ix1 0)

/-- Batch row `b` of the input. -/
def batch (a0 : (⟨3, ![64, 2048, 12]⟩ : Shape).Idx → EReal) (b : Fin 64) : Fin 2048 → Fin 12 → EReal :=
  fun t k => a0 (ix3 b t k)

namespace Weights
variable (w : Weights) (X : Fin 2048 → Fin 12 → EReal)

/-- The activated rows. -/
def act (d : Fin 24) (t : Fin 2048) : EReal := silu (conv w.tap w.bias (xin w.W X) d t)

/-- The input-dependent coefficients. -/
def mix : Fin 36 → Fin 2048 → EReal := proj w.P (w.act X)

/-- The step widths. -/
def steps : Fin 24 → Fin 2048 → EReal := width w.Q w.db (w.mix X)

/-- The decay rate of channel `d`, state `s`. -/
def rate (d : Fin 24) (s : Fin 16) : EReal := -Ideal.exp (w.L d s)

/-- The closed form's decay of channel `d` from step `t` to the end, first state. -/
def decay (d : Fin 24) (t : Fin 2048) : EReal := Ideal.exp (later (w.steps X d) t * w.rate d 0)

/-- The closed form's last output of channel `d`. -/
def closed (d : Fin 24) : EReal :=
  ∑ t : Fin 2048, w.steps X d t * w.act X d t * w.decay X d t
      * poly 16 (fun s => w.mix X ⟨4 + s.val, by omega⟩ t * w.mix X ⟨20 + s.val, by omega⟩ 2047) (w.decay X d t)
    + w.act X d 2047 * w.D d

/-- The recurrence's state `s` of channel `d` after `n` steps. -/
def state (d : Fin 24) (s : Fin 16) : ℕ → EReal
  | 0 => 0
  | n + 1 => if h : n < 2048 then
      Ideal.exp (w.steps X d ⟨n, h⟩ * w.rate d s) * state d s n
        + w.steps X d ⟨n, h⟩ * w.mix X ⟨4 + s.val, by omega⟩ ⟨n, h⟩ * w.act X d ⟨n, h⟩
    else 0

/-- The recurrence's last output of channel `d`. -/
def scanned (d : Fin 24) : EReal :=
  ∑ s : Fin 16, w.state X d s 2048 * w.mix X ⟨20 + s.val, by omega⟩ 2047 + w.act X d 2047 * w.D d

/-- The prediction from a last output. -/
def out (y : Fin 24 → EReal) : EReal := head w.ow w.fw w.fb y (zlast w.W X)

end Weights

end Cert.Ssm

end
-- ==== Proof.BodyRead.lean ====
/- The stages of the kernel body read at one entry over the ideal numbers: each stage at (group, channel, step) is the
   shared vocabulary's function of the group's batch row; together, the stored block is the closed form (`out_apply`).
   Hand-written, untrusted. -/
module

public import proofs.«01_k».proof.Proof.Body
public import proofs.«01_k».proof.Proof.Spec
public import Idealize.ShloMosaic.Lib.Pointwise
public import Idealize.ShloMosaic.Lib.ValueLayout
public import Idealize.ShloMosaic.Lib.Pipeline.ValueKit

@[expose] public section

set_option maxRecDepth 16384

noncomputable section

namespace Cert.KernelIdeal.Body

open Idealize.ShloMosaic Idealize.SL.Sem Cert.KernelIdeal Cert.KernelIdeal.Gen

variable {F : FTy → Type} [FloatOps F]

/-- Stacked row of group `g`, channel `d`. -/
def row (g : Fin 16) (d : Fin 24) : Fin 384 := ⟨24 * g.val + d.val, by omega⟩

/-- The stack at a row is its group's piece at the channel. -/
theorem stack_apply (f : Fin 16 → FVec F S24x2048 .f32) (g : Fin 16) (d : Fin 24) (t : Fin 2048) :
    stack f (ix2 (row g d) t) = f g (ix2 d t) := by
  refine concatenate_ofFn_apply (t := S384x2048) (s₁ := S24x2048) 0 f _ rfl 24 rfl (ix2 (row g d) t) g ?_ (ix2 d t) ?_ ?_
  · show (24 * g.val + d.val) / 24 = g.val
    omega
  · show d.val = (24 * g.val + d.val) % 24
    omega
  · intro b hb
    match b with
    | ⟨0, _⟩ => exact absurd rfl hb
    | ⟨1, _⟩ => rfl

/-- Columns of 24 side by side: column `g` is its piece. -/
theorem cols24_apply (f : Fin 16 → FVec F S24x1 .f32) (g : Fin 16) (d : Fin 24) :
    cols24 f (ix2 d g) = f g (ix2 d 0) := by
  refine concatenate_ofFn_apply (t := S24x16) (s₁ := S24x1) 1 f _ rfl 1 rfl (ix2 d g) g ?_ (ix2 d 0) ?_ ?_
  · exact Nat.div_one _
  · exact (Nat.mod_one _).symm
  · intro b hb
    match b with
    | ⟨0, _⟩ => rfl
    | ⟨1, _⟩ => exact absurd rfl hb

/-- Columns of 12 side by side: column `g` is its piece. -/
theorem cols12_apply (f : Fin 16 → FVec F S12x1 .bf16) (g : Fin 16) (d : Fin 12) :
    cols12 f (ix2 d g) = f g (ix2 d 0) := by
  refine concatenate_ofFn_apply (t := S12x16) (s₁ := S12x1) 1 f _ rfl 1 rfl (ix2 d g) g ?_ (ix2 d 0) ?_ ?_
  · exact Nat.div_one _
  · exact (Nat.mod_one _).symm
  · intro b hb
    match b with
    | ⟨0, _⟩ => rfl
    | ⟨1, _⟩ => exact absurd rfl hb

/-- A repeated column block at lane `t` is the block at `t` modulo 128. -/
theorem lanes_apply (v : Vec F S384x128 .f32) (r : Fin 384) (t : Fin 2048) :
    lanes v (ix2 r t) = v (ix2 r ⟨t.val % 128, by omega⟩) := by
  refine (concatenate_ofFn_apply (t := S384x2048) (s₁ := S384x128) 1 (fun _ : Fin 16 => shapeCast S384x128 v shapeCasts_S384x128_S384x128) _ rfl 128 rfl (ix2 r t) ⟨t.val / 128, by omega⟩ rfl (ix2 r ⟨t.val % 128, by omega⟩) rfl ?_).trans ?_
  · intro b hb
    match b with
    | ⟨0, _⟩ => rfl
    | ⟨1, _⟩ => exact absurd rfl hb
  · pointwise

/-- Group `g`'s slab reads its batch row. -/
theorem slab_apply (x0 : Vec F S16x12x2048 .bf16) (g : Fin 16) (k : Fin 12) (t : Fin 2048) :
    slab x0 g (ix2 k t) = x0 (ix3 g k t) := by
  unfold slab
  refine (Idealize.ShloMosaic.ValueIdx.shapeCast_1ab_ab_apply (a := 12) (b := 2048) _ _ k t).trans ?_
  rw [View.ld_apply]
  congr 1
  funext a
  apply Fin.ext
  match a with
  | ⟨0, _⟩ => exact show g.val + 1 * 0 = g.val by omega
  | ⟨1, _⟩ => exact show 0 + 1 * k.val = k.val by omega
  | ⟨2, _⟩ => exact show 0 + 1 * t.val = t.val by omega

/-- The projected rows are the input projection of the group's batch row. -/
theorem xin_apply (x0 : Vec Ideal S16x12x2048 .bf16) (x1 : Vec Ideal S48x12 .f32) (g : Fin 16) (d : Fin 24) (t : Fin 2048) :
    xin x0 x1 (ix2 (row g d) t) = Ssm.xin (fun a b => x1 (ix2 a b)) (fun t k => x0 (ix3 g k t)) d t := by
  rw [xin, stack_apply]
  pointwise [slab_apply]
  rfl

/-- The last gate column is the gate projection of the group's batch row. -/
theorem zmat_apply (x0 : Vec Ideal S16x12x2048 .bf16) (x1 : Vec Ideal S48x12 .f32) (g : Fin 16) (d : Fin 24) :
    zmat x0 x1 (ix2 d g) = Ssm.zlast (fun a b => x1 (ix2 a b)) (fun t k => x0 (ix3 g k t)) d := by
  pointwise [zmat, cols12_apply, slab_apply]
  rfl

/-- The signed comparison of two small words is the comparison of the numbers. -/
theorem sge_word (k t : ℕ) (hk : k < 2048) (ht : t < 2048) :
    IntOp.cmpi .sge (BitVec.ofNat 32 t) (BitVec.ofNat 32 k) = if k ≤ t then 1#1 else 0#1 := by
  unfold IntOp.cmpi
  simp only [BitVec.sle]
  have hb (n : ℕ) (hn : n < 2048) : (BitVec.ofNat 32 n).toInt = n := by
    rw [BitVec.toInt_eq_toNat_cond, BitVec.toNat_ofNat]; omega
  rw [hb k hk, hb t ht]
  by_cases h : k ≤ t
  · rw [if_pos h, decide_eq_true (by exact_mod_cast h)]; rfl
  · rw [if_neg h, decide_eq_false (by exact_mod_cast h)]; rfl

/-- The body's gate is `silu`. -/
theorem gate_apply {s : Shape} (v : FVec Ideal s .f32) (i : s.Idx) : gate v i = Ssm.silu (v i) := by
  pointwise [gate]
  rw [zero_sub]; rfl

/-- The body's softplus is `soft`. -/
theorem soft_apply (v : FVec Ideal S384x2048 .f32) (i : S384x2048.Idx) : soft v i = Ssm.soft (v i) := by
  pointwise [soft]
  rw [if_neg (by simp), zero_sub]; rfl

/-- The rotated and masked rows are the rows moved later. -/
theorem delayed_apply (k : ℕ) (hk : k < 2048) (v : FVec Ideal S384x2048 .f32) (r : Fin 384) (t : Fin 2048) :
    delayed (BitVec.ofNat 32 k) v (ix2 r t) = Ssm.back k (fun t => v (ix2 r t)) t := by
  pointwise [delayed]
  rw [sge_word k t hk t.isLt]
  unfold Ssm.back
  have hm : (BitVec.ofNat 32 k).toNat = k := by rw [BitVec.toNat_ofNat]; omega
  split
  · rename_i h
    refine (WordCmp.select_one _ _).trans ?_
    simp only [hm]
    congr 2
    exact Fin.ext (show (t.val + 2048 - k % 2048) % 2048 = t.val - k by omega)
  · rfl

/-- The operands hold the weights: the tap, bias and rate columns repeated in every group and lane, the triangular
    matrix, the direct term repeated in every group, the rest as they are. -/
structure Holds (w : Ssm.Weights) (x1 : Vec Ideal S48x12 .f32) (x2 : Vec Ideal S384x896 .f32) (x3 : Vec Ideal S36x24 .f32)
    (x4 : Vec Ideal S24x4 .f32) (x5 : Vec Ideal S512x512 .f32) (x6 : Vec Ideal S384x1 .f32) (x7 : Vec Ideal S12x24 .f32)
    (x8 : Vec Ideal S1x12 .f32) (x9 : Vec Ideal S1x1 .f32) : Prop where
  W : ∀ a b, x1 (ix2 a b) = w.W a b
  tap : ∀ (g : Fin 16) (d : Fin 24) (j : Fin 4) (l : Fin 128), x2 (ix2 (row g d) ⟨128 * j.val + l.val, by omega⟩) = w.tap d j
  bias : ∀ (g : Fin 16) (d : Fin 24) (l : Fin 128), x2 (ix2 (row g d) ⟨512 + l.val, by omega⟩) = w.bias d
  db : ∀ (g : Fin 16) (d : Fin 24) (l : Fin 128), x2 (ix2 (row g d) ⟨640 + l.val, by omega⟩) = w.db d
  rate : ∀ (g : Fin 16) (d : Fin 24) (l : Fin 128), x2 (ix2 (row g d) ⟨768 + l.val, by omega⟩) = w.rate d 0
  P : ∀ a b, x3 (ix2 a b) = w.P a b
  Q : ∀ a b, x4 (ix2 a b) = w.Q a b
  tri : ∀ u t : Fin 512, x5 (ix2 u t) = if t < u then 1 else 0
  D : ∀ (g : Fin 16) (d : Fin 24), x6 (ix2 (row g d) 0) = w.D d
  ow : ∀ a b, x7 (ix2 a b) = w.ow a b
  fw : ∀ a, x8 (ix2 0 a) = w.fw a
  fb : x9 (ix2 0 0) = w.fb

/-- The convolved rows. -/
theorem conv_apply (v : FVec Ideal S384x2048 .f32) (x2 : Vec Ideal S384x896 .f32)
    (tap : Fin 24 → Fin 4 → EReal) (b : Fin 24 → EReal) (g : Fin 16)
    (ht : ∀ (d : Fin 24) (j : Fin 4) (l : Fin 128), x2 (ix2 (row g d) ⟨128 * j.val + l.val, by omega⟩) = tap d j)
    (hb : ∀ (d : Fin 24) (l : Fin 128), x2 (ix2 (row g d) ⟨512 + l.val, by omega⟩) = b d)
    (d : Fin 24) (t : Fin 2048) :
    conv v x2 (ix2 (row g d) t) = Ssm.conv tap b (fun d t => v (ix2 (row g d) t)) d t := by
  have e1 := delayed_apply 1 (by decide) v (row g d) t
  have e2 := delayed_apply 2 (by decide) v (row g d) t
  have e3 := delayed_apply 3 (by decide) v (row g d) t
  have h0 := ht d 0 ⟨t.val % 128, by omega⟩
  have h1 := ht d 1 ⟨t.val % 128, by omega⟩
  have h2 := ht d 2 ⟨t.val % 128, by omega⟩
  have h3 := ht d 3 ⟨t.val % 128, by omega⟩
  have h4 := hb d ⟨t.val % 128, by omega⟩
  simp only [Fin.val_zero, Nat.mul_zero, Nat.zero_add] at h0
  pointwise [conv, lanes_apply]
  unfold Ssm.conv
  rw [e1, e2, e3, h4, h0, ← h1, ← h2, ← h3]
  rfl

/-- A carried column has the column's value in every lane. -/
theorem carry_apply (v : FVec F S384x1 .f32) (r : Fin 384) (t : Fin 512) : carry v (ix2 r t) = v (ix2 r 0) := by
  pointwise [carry]
  simp only [dite_eq_ite, ite_self]

/-- The product with the triangular matrix. -/
theorem later_apply (v : FVec Ideal S384x512 .f32) (x5 : Vec Ideal S512x512 .f32) (r : Fin 384) (t : Fin 512) :
    later v x5 (ix2 r t) = ∑ u : Fin 512, v (ix2 r u) * x5 (ix2 u t) := by
  pointwise [later]

/-- A chunk's total is its sum. -/
theorem total_apply (v : FVec Ideal S384x512 .f32) (r : Fin 384) :
    total v (ix2 r 0) = ∑ u : Fin 512, v (ix2 r u) := by
  pointwise [total]

/-- A sum over the steps, chunk by chunk. -/
theorem sum_chunks (f : Fin 2048 → EReal) : ∑ u, f u
    = ∑ x : Fin 512, f ⟨x.val, by omega⟩ + (∑ x : Fin 512, f ⟨512 + x.val, by omega⟩
      + (∑ x : Fin 512, f ⟨1024 + x.val, by omega⟩ + ∑ x : Fin 512, f ⟨1536 + x.val, by omega⟩)) := by
  have h1 := Fin.sum_univ_add (a := 512) (b := 1536) f
  have h2 := Fin.sum_univ_add (a := 512) (b := 1024) (fun x => f (Fin.natAdd 512 x))
  have h3 := Fin.sum_univ_add (a := 512) (b := 512) (fun x => f (Fin.natAdd 512 (Fin.natAdd 512 x)))
  refine h1.trans (congrArg₂ _ rfl (h2.trans (congrArg₂ _ rfl (h3.trans (congrArg₂ _ ?_ ?_)))))
  · exact Finset.sum_congr rfl fun x _ => congrArg f (Fin.ext (show 512 + (512 + x.val) = 1024 + x.val by omega))
  · exact Finset.sum_congr rfl fun x _ => congrArg f (Fin.ext (show 512 + (512 + (512 + x.val)) = 1536 + x.val by omega))

/-- The chunk ladder of a row is the sum over all later steps. -/
theorem later_chunks (f : Fin 2048 → EReal) (T : Fin 512 → Fin 512 → EReal) (hT : ∀ u t, T u t = if t < u then 1 else 0)
    (t : Fin 2048) :
    (if h0 : t.val < 512 then
        ∑ x : Fin 512, f ⟨x.val, by omega⟩ * T x ⟨t.val, h0⟩
          + (∑ x : Fin 512, f ⟨1536 + x.val, by omega⟩ + ∑ x : Fin 512, f ⟨1024 + x.val, by omega⟩ + ∑ x : Fin 512, f ⟨512 + x.val, by omega⟩)
      else if h1 : t.val - 512 < 512 then
        ∑ x : Fin 512, f ⟨512 + x.val, by omega⟩ * T x ⟨t.val - 512, h1⟩
          + (∑ x : Fin 512, f ⟨1536 + x.val, by omega⟩ + ∑ x : Fin 512, f ⟨1024 + x.val, by omega⟩)
      else if h2 : t.val - 512 - 512 < 512 then
        ∑ x : Fin 512, f ⟨1024 + x.val, by omega⟩ * T x ⟨t.val - 512 - 512, h2⟩ + ∑ x : Fin 512, f ⟨1536 + x.val, by omega⟩
      else ∑ x : Fin 512, f ⟨1536 + x.val, by omega⟩ * T x ⟨t.val - 512 - 512 - 512, by omega⟩)
      = Ssm.later f t := by
  have hall (o : ℕ) (ho : o + 512 ≤ 2048) (ht : t.val < o) :
      ∑ x : Fin 512, (if t < (⟨o + x.val, by omega⟩ : Fin 2048) then f ⟨o + x.val, by omega⟩ else 0)
        = ∑ x : Fin 512, f ⟨o + x.val, by omega⟩ :=
    Finset.sum_congr rfl fun x _ => if_pos (show t.val < o + x.val by omega)
  have hnone (o : ℕ) (ho : o + 512 ≤ 2048) (ht : o + 512 ≤ t.val) :
      ∑ x : Fin 512, (if t < (⟨o + x.val, by omega⟩ : Fin 2048) then f ⟨o + x.val, by omega⟩ else 0) = 0 :=
    Finset.sum_eq_zero fun x _ => if_neg (show ¬ t.val < o + x.val by omega)
  have hin (o : ℕ) (ho : o + 512 ≤ 2048) (s : Fin 512) (hs : t.val = o + s.val) :
      ∑ x : Fin 512, (if t < (⟨o + x.val, by omega⟩ : Fin 2048) then f ⟨o + x.val, by omega⟩ else 0)
        = ∑ x : Fin 512, f ⟨o + x.val, by omega⟩ * T x s := by
    refine Finset.sum_congr rfl fun x _ => ?_
    rw [hT]
    by_cases h : s < x
    · have h' : t < (⟨o + x.val, by omega⟩ : Fin 2048) := show t.val < o + x.val by have : s.val < x.val := h; omega
      rw [if_pos h, if_pos h', mul_one]
    · have h' : ¬ t < (⟨o + x.val, by omega⟩ : Fin 2048) := show ¬ t.val < o + x.val by have : ¬ s.val < x.val := h; omega
      rw [if_neg h, if_neg h', mul_zero]
  have e0 (F : Fin 2048 → EReal) (T : Fin 512 → EReal) :
      ∑ x : Fin 512, F ⟨x.val, by omega⟩ * T x = ∑ x : Fin 512, F ⟨0 + x.val, by omega⟩ * T x :=
    Finset.sum_congr rfl fun x _ => congrArg (fun i => F i * T x) (Fin.ext (Nat.zero_add _).symm)
  have e1 (F : Fin 2048 → EReal) : ∑ x : Fin 512, F ⟨x.val, by omega⟩ = ∑ x : Fin 512, F ⟨0 + x.val, by omega⟩ :=
    Finset.sum_congr rfl fun x _ => congrArg F (Fin.ext (Nat.zero_add _).symm)
  unfold Ssm.later
  rw [sum_chunks, e1 fun u => if t < u then f u else 0]
  by_cases c0 : t.val < 512
  · rw [dif_pos c0, hall 512 (by omega) c0, hall 1024 (by omega) (by omega), hall 1536 (by omega) (by omega),
      hin 0 (by omega) ⟨t.val, c0⟩ (Nat.zero_add _).symm, e0 f fun x => T x ⟨t.val, c0⟩]
    ac_rfl
  rw [dif_neg c0]
  by_cases c1 : t.val - 512 < 512
  · rw [dif_pos c1, hnone 0 (by omega) (by omega), hall 1024 (by omega) (by omega), hall 1536 (by omega) (by omega),
      hin 512 (by omega) ⟨t.val - 512, c1⟩ (show t.val = 512 + (t.val - 512) by omega), zero_add]
    ac_rfl
  rw [dif_neg c1]
  by_cases c2 : t.val - 512 - 512 < 512
  · rw [dif_pos c2, hnone 0 (by omega) (by omega), hnone 512 (by omega) (by omega), hall 1536 (by omega) (by omega),
      hin 1024 (by omega) ⟨t.val - 512 - 512, c2⟩ (show t.val = 1024 + (t.val - 512 - 512) by omega), zero_add, zero_add]
  rw [dif_neg c2, hnone 0 (by omega) (by omega), hnone 512 (by omega) (by omega), hnone 1024 (by omega) (by omega),
    hin 1536 (by omega) ⟨t.val - 512 - 512 - 512, by omega⟩ (show t.val = 1536 + (t.val - 512 - 512 - 512) by omega),
    zero_add, zero_add, zero_add]

/-- The chunked sums are the sum over all later steps. -/
theorem suffix_apply (d : FVec Ideal S384x2048 .f32) (x5 : Vec Ideal S512x512 .f32)
    (h5 : ∀ u t : Fin 512, x5 (ix2 u t) = if t < u then 1 else 0) (r : Fin 384) (t : Fin 2048) :
    suffix d x5 (ix2 r t) = Ssm.later (fun t => d (ix2 r t)) t := by
  pointwise [suffix, carry_apply, later_apply, total_apply, chunk0, chunk1, chunk2, chunk3]
  exact later_chunks (fun t => d (ix2 r t)) (fun u t => x5 (ix2 u t)) h5 t

/-- A group's projection. -/
theorem xdbl_apply (u : FVec Ideal S384x2048 .f32) (x3 : Vec Ideal S36x24 .f32) (g : Fin 16) (j : Fin 20) (t : Fin 2048) :
    xdbl u x3 g (ix2 j t) = Ssm.proj (fun a b => x3 (ix2 a b)) (fun d t => u (ix2 (row g d) t)) ⟨j.val, by omega⟩ t := by
  pointwise [xdbl]
  rfl

/-- A group's coefficient products. -/
theorem bmc_apply (u : FVec Ideal S384x2048 .f32) (x3 : Vec Ideal S36x24 .f32) (g : Fin 16) (j : Fin 16) (t : Fin 2048) :
    bmc u x3 g (ix2 j t) = Ssm.proj (fun a b => x3 (ix2 a b)) (fun d t => u (ix2 (row g d) t)) ⟨4 + j.val, by omega⟩ t
      * Ssm.proj (fun a b => x3 (ix2 a b)) (fun d t => u (ix2 (row g d) t)) ⟨20 + j.val, by omega⟩ 2047 := by
  pointwise [bmc, clmat, cols24_apply, xcl, xdbl_apply]
  rfl

/-- A state's coefficient at a stacked row is its group's. -/
theorem coef_apply (u : FVec Ideal S384x2048 .f32) (x3 : Vec Ideal S36x24 .f32) (g : Fin 16) (s : Fin 16) (d : Fin 24) (t : Fin 2048) :
    coef u x3 s (ix2 (row g d) t) = bmc u x3 g (ix2 s t) := by
  rw [coef, stack_apply]
  pointwise

/-- The step widths. -/
theorem dt_apply (u : FVec Ideal S384x2048 .f32) (x2 : Vec Ideal S384x896 .f32) (x3 : Vec Ideal S36x24 .f32) (x4 : Vec Ideal S24x4 .f32)
    (b : Fin 24 → EReal) (g : Fin 16)
    (h5 : ∀ (d : Fin 24) (l : Fin 128), x2 (ix2 (row g d) ⟨640 + l.val, by omega⟩) = b d)
    (d : Fin 24) (t : Fin 2048) :
    dt u x2 x3 x4 (ix2 (row g d) t) = Ssm.width (fun a b => x4 (ix2 a b)) b
      (Ssm.proj (fun a b => x3 (ix2 a b)) (fun d t => u (ix2 (row g d) t))) d t := by
  rw [dt, soft_apply, addf_apply, stack_apply]
  pointwise [xdbl_apply, lanes_apply]
  rw [h5 d ⟨t.val % 128, by omega⟩]
  rfl

/-- The first coefficient and the rest by Horner's rule make the polynomial. -/
theorem horner_apply (c : Fin 16 → FVec Ideal S384x2048 .f32) (e : FVec Ideal S384x2048 .f32) (i : S384x2048.Idx) :
    c 0 i + horner c e i * e i = Ssm.poly 16 (fun s => c s i) (e i) := by
  pointwise [horner]
  simp only [Ssm.poly, zero_mul, add_zero]
  rfl

/-- What group `g` stores, of its rows. -/
theorem pred_apply (y : FVec Ideal S384x1 .f32) (z : FVec Ideal S24x16 .f32) (x7 : Vec Ideal S12x24 .f32) (x8 : Vec Ideal S1x12 .f32)
    (x9 : Vec Ideal S1x1 .f32) (g : Fin 16) : pred y z x7 x8 x9 g (ix3 0 0 0)
     = Ssm.head (fun a b => x7 (ix2 a b)) (fun a => x8 (ix2 0 a)) (x9 (ix2 0 0)) (fun d => y (ix2 (row g d) 0)) (fun d => z (ix2 d g)) := by
  pointwise [pred, gate_apply]
  rfl

/-- The last outputs, of the stages. -/
theorem ylast_apply (u : FVec Ideal S384x2048 .f32) (d : FVec Ideal S384x2048 .f32) (x2 : Vec Ideal S384x896 .f32) (x3 : Vec Ideal S36x24 .f32)
    (x5 : Vec Ideal S512x512 .f32) (x6 : Vec Ideal S384x1 .f32) (r : Fin 384) : ylast u d x2 x3 x5 x6 (ix2 r 0)
      = ∑ t, d (ix2 r t) * u (ix2 r t) * decay d x2 x5 (ix2 r t)
          * Ssm.poly 16 (fun s => coef u x3 s (ix2 r t)) (decay d x2 x5 (ix2 r t)) + u (ix2 r 2047) * x6 (ix2 r 0) := by
  pointwise [ylast, xcl]
  simp only [horner_apply]

/-- The decay at a row whose rate column holds `a`. -/
theorem decay_apply (d : FVec Ideal S384x2048 .f32) (x2 : Vec Ideal S384x896 .f32) (x5 : Vec Ideal S512x512 .f32)
    (h5 : ∀ u t : Fin 512, x5 (ix2 u t) = if t < u then 1 else 0) (r : Fin 384) (a : EReal)
    (ha : ∀ l : Fin 128, x2 (ix2 r ⟨768 + l.val, by omega⟩) = a) (t : Fin 2048) :
    decay d x2 x5 (ix2 r t) = Ideal.exp (Ssm.later (fun t => d (ix2 r t)) t * a) := by
  pointwise [decay, lanes_apply, suffix_apply d x5 h5]
  rw [ha ⟨t.val % 128, by omega⟩]

section
variable {w : Ssm.Weights} {x0 : Vec Ideal S16x12x2048 .bf16} {x1 : Vec Ideal S48x12 .f32} {x2 : Vec Ideal S384x896 .f32}
  {x3 : Vec Ideal S36x24 .f32} {x4 : Vec Ideal S24x4 .f32} {x5 : Vec Ideal S512x512 .f32} {x6 : Vec Ideal S384x1 .f32}
  {x7 : Vec Ideal S12x24 .f32} {x8 : Vec Ideal S1x12 .f32} {x9 : Vec Ideal S1x1 .f32}

/-- The stored block at group `g` is the closed form of the group's batch row. -/
theorem out_apply (H : Holds w x1 x2 x3 x4 x5 x6 x7 x8 x9) (g : Fin 16) :
    out0_10 x0 x1 x2 x3 x4 x5 x6 x7 x8 x9 (ix3 g 0 0)
      = w.out (fun t k => x0 (ix3 g k t)) (w.closed fun t k => x0 (ix3 g k t)) := by
  have hW : (fun a b => x1 (ix2 a b)) = w.W := funext fun a => funext fun b => H.W a b
  have hP : (fun a b => x3 (ix2 a b)) = w.P := funext fun a => funext fun b => H.P a b
  have hQ : (fun a b => x4 (ix2 a b)) = w.Q := funext fun a => funext fun b => H.Q a b
  have how : (fun a b => x7 (ix2 a b)) = w.ow := funext fun a => funext fun b => H.ow a b
  have hfw : (fun a => x8 (ix2 0 a)) = w.fw := funext fun a => H.fw a
  have hu : (fun d t => xc x0 x1 x2 (ix2 (row g d) t)) = w.act fun t k => x0 (ix3 g k t) := by
    funext d t
    rw [xc, gate_apply, conv_apply _ _ w.tap w.bias g (H.tap g) (H.bias g)]
    simp only [xin_apply, hW]
    rfl
  have hu' (d : Fin 24) (t : Fin 2048) := congrFun (congrFun hu d) t
  have hd (d : Fin 24) (t : Fin 2048) : dt (xc x0 x1 x2) x2 x3 x4 (ix2 (row g d) t) = w.steps (fun t k => x0 (ix3 g k t)) d t := by
    rw [dt_apply _ _ _ _ w.db g (H.db g), hu, hP, hQ]
    rfl
  rw [out_eq, pred_apply, how, hfw, H.fb]
  unfold Ssm.Weights.out
  congr 1
  · funext d
    rw [ylast_apply, H.D]
    unfold Ssm.Weights.closed
    simp only [hd, hu', coef_apply, bmc_apply, hu, hP, decay_apply _ _ _ H.tri _ _ (H.rate g d)]
    rfl
  · funext d
    rw [zmat_apply, hW]

end
end Cert.KernelIdeal.Body

end
-- ==== Proof.Entry.lean ====
/- What the kernel's operands hold when the region starts, at one entry, and the kernel's result: every batch row's
   prediction is the closed form. Hand-written, untrusted. -/
module

public import proofs.«01_k».proof.Proof.BodyRead
public import proofs.«01_k».proof.Proof.Gen.KernelIdeal.Value
public import Idealize.ShloMosaic.Lib.StableHlo.ReadAt
public import Idealize.ShloMosaic.Lib.Claim

@[expose] public section

set_option maxRecDepth 16384

noncomputable section

namespace Cert.KernelIdeal.Entry

open Idealize.ShloMosaic Idealize.SL.Sem Cert.KernelIdeal Cert.KernelIdeal.Gen Cert.KernelIdeal.Body

variable (m : (ℓ : Loc nD τ sig) → Buf (Elt Ideal) ℓ) (c : Dev nD)

/-- The staged input is the input with its two last axes exchanged. -/
theorem v1_at (b : Fin 64) (k : Fin 12) (t : Fin 2048) :
    (V m c main_v1 : S64x12x2048.Idx → EReal) (ix3 b k t) = (m (c.tc.loc main_arg0) : S64x2048x12.Idx → EReal) (ix3 b t k) := by
  unfold V
  after_reads_at

/-- A stacked row's channel. -/
theorem row_mod (g : Fin 16) (d : Fin 24) : (⟨(row g d).val % 24, Nat.mod_lt _ (by decide)⟩ : Fin 24) = d :=
  Fin.ext (show (24 * g.val + d.val) % 24 = d.val by omega)

/-- The repeated direct term. -/
theorem v41_at (g : Fin 16) (d : Fin 24) :
    (V m c main_v41 : S384x1.Idx → EReal) (ix2 (row g d) 0) = (m (c.tc.loc main_arg8) : S24.Idx → EReal) (ix1 d) := by
  unfold V
  after_reads_at
  rw [row_mod]

/-- The last bias. -/
theorem v42_at :
    (V m c main_v42 : S1x1.Idx → EReal) (ix2 0 0) = (m (c.tc.loc main_arg11) : S1.Idx → EReal) (ix1 0) := by
  unfold V
  after_reads_at

/-- One less than a small word, compared with a small word. -/
theorem tril_word (u t : ℕ) (hu : u < 512) (ht : t < 512) :
    IntOp.cmpi .sge (IntOp.addi (BitVec.ofNat 32 u) 4294967295#32) (BitVec.ofNat 32 t) = if t < u then 1#1 else 0#1 := by
  unfold IntOp.cmpi IntOp.addi
  simp only [BitVec.sle]
  have hb : (BitVec.ofNat 32 t).toInt = t := by
    rw [BitVec.toInt_eq_toNat_cond, BitVec.toNat_ofNat]; omega
  have hc : (BitVec.ofNat 32 u + 4294967295#32).toInt = (u : ℤ) - 1 := by
    rw [BitVec.toInt_eq_toNat_cond, BitVec.toNat_add, BitVec.toNat_ofNat, BitVec.toNat_ofNat]; omega
  rw [hb, hc]
  by_cases h : t < u
  · rw [if_pos h, decide_eq_true (by omega)]; rfl
  · rw [if_neg h, decide_eq_false (by omega)]; rfl

/-- The triangular matrix: one strictly below the diagonal, zero elsewhere. -/
theorem v37_at (u t : Fin 512) :
    (V m c main_v37 : S512x512.Idx → EReal) (ix2 u t) = (if t < u then 1 else 0 : EReal) := by
  unfold V
  after_reads_at
  rw [tril_word u t u.isLt t.isLt]
  by_cases h : t < u
  · rw [if_pos h, if_pos (show t.val < u.val from h)]; rfl
  · rw [if_neg h, if_neg (show ¬ t.val < u.val from h)]; rfl

/-- The column pack, seven blocks of 128 lanes: the four taps, the two biases, the rate of the first state. -/
theorem v35_at (r : Fin 384) (t : Fin 896) (n : ℕ) (hn : t.val = n) :
    (V m c main_v35 : S384x896.Idx → EReal) (ix2 r t) =
      if n < 128 then (m (c.tc.loc main_arg2) : S24x1x4.Idx → EReal) (ix3 ⟨r.val % 24, Nat.mod_lt _ (by decide)⟩ 0 0)
      else if n - 128 < 128 then (m (c.tc.loc main_arg2) : S24x1x4.Idx → EReal) (ix3 ⟨r.val % 24, Nat.mod_lt _ (by decide)⟩ 0 1)
      else if n - 128 - 128 < 128 then (m (c.tc.loc main_arg2) : S24x1x4.Idx → EReal) (ix3 ⟨r.val % 24, Nat.mod_lt _ (by decide)⟩ 0 2)
      else if n - 128 - 128 - 128 < 128 then (m (c.tc.loc main_arg2) : S24x1x4.Idx → EReal) (ix3 ⟨r.val % 24, Nat.mod_lt _ (by decide)⟩ 0 3)
      else if n - 128 - 128 - 128 - 128 < 128 then (m (c.tc.loc main_arg3) : S24.Idx → EReal) (ix1 ⟨r.val % 24, Nat.mod_lt _ (by decide)⟩)
      else if n - 128 - 128 - 128 - 128 - 128 < 128 then (m (c.tc.loc main_arg6) : S24.Idx → EReal) (ix1 ⟨r.val % 24, Nat.mod_lt _ (by decide)⟩)
      else -Ideal.exp ((m (c.tc.loc main_arg7) : S24x16.Idx → EReal) (ix2 ⟨r.val % 24, Nat.mod_lt _ (by decide)⟩ 0)) := by
  subst hn
  unfold V
  after_reads_at
  after_reads_at
  rfl

/-- The parameters the arguments hold. -/
abbrev weightsOf : Ssm.Weights :=
  Ssm.weights (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))
    (m (c.tc.loc main_arg9)) (m (c.tc.loc main_arg10)) (m (c.tc.loc main_arg11))

/-- The operands hold the parameters. -/
theorem holds : Holds (weightsOf m c) (V m c main_arg1) (V m c main_v35) (V m c main_arg4) (V m c main_arg5) (V m c main_v37)
    (V m c main_v41) (V m c main_arg9) (V m c main_arg10) (V m c main_v42) where
  W a b := by rw [V_main_arg1]; rfl
  tap g d j l := by
    match j with
    | 0 =>
      rw [v35_at m c _ _ (128 * 0 + l.val) rfl, row_mod]
      rw [if_pos (show 128 * 0 + l.val < 128 by omega)]; rfl
    | 1 =>
      rw [v35_at m c _ _ (128 * 1 + l.val) rfl, row_mod]
      rw [if_neg (show ¬ 128 * 1 + l.val < 128 by omega),
        if_pos (show 128 * 1 + l.val - 128 < 128 by omega)]; rfl
    | 2 =>
      rw [v35_at m c _ _ (128 * 2 + l.val) rfl, row_mod]
      rw [if_neg (show ¬ 128 * 2 + l.val < 128 by omega),
        if_neg (show ¬ 128 * 2 + l.val - 128 < 128 by omega),
        if_pos (show 128 * 2 + l.val - 128 - 128 < 128 by omega)]; rfl
    | 3 =>
      rw [v35_at m c _ _ (128 * 3 + l.val) rfl, row_mod]
      rw [if_neg (show ¬ 128 * 3 + l.val < 128 by omega),
        if_neg (show ¬ 128 * 3 + l.val - 128 < 128 by omega),
        if_neg (show ¬ 128 * 3 + l.val - 128 - 128 < 128 by omega),
        if_pos (show 128 * 3 + l.val - 128 - 128 - 128 < 128 by omega)]; rfl
  bias g d l := by
    rw [v35_at m c _ _ (512 + l.val) rfl, row_mod]
    rw [if_neg (show ¬ 512 + l.val < 128 by omega),
      if_neg (show ¬ 512 + l.val - 128 < 128 by omega),
      if_neg (show ¬ 512 + l.val - 128 - 128 < 128 by omega),
      if_neg (show ¬ 512 + l.val - 128 - 128 - 128 < 128 by omega),
      if_pos (show 512 + l.val - 128 - 128 - 128 - 128 < 128 by omega)]; rfl
  db g d l := by
    rw [v35_at m c _ _ (640 + l.val) rfl, row_mod]
    rw [if_neg (show ¬ 640 + l.val < 128 by omega),
      if_neg (show ¬ 640 + l.val - 128 < 128 by omega),
      if_neg (show ¬ 640 + l.val - 128 - 128 < 128 by omega),
      if_neg (show ¬ 640 + l.val - 128 - 128 - 128 < 128 by omega),
      if_neg (show ¬ 640 + l.val - 128 - 128 - 128 - 128 < 128 by omega),
      if_pos (show 640 + l.val - 128 - 128 - 128 - 128 - 128 < 128 by omega)]; rfl
  rate g d l := by
    rw [v35_at m c _ _ (768 + l.val) rfl, row_mod]
    rw [if_neg (show ¬ 768 + l.val < 128 by omega),
      if_neg (show ¬ 768 + l.val - 128 < 128 by omega),
      if_neg (show ¬ 768 + l.val - 128 - 128 < 128 by omega),
      if_neg (show ¬ 768 + l.val - 128 - 128 - 128 < 128 by omega),
      if_neg (show ¬ 768 + l.val - 128 - 128 - 128 - 128 < 128 by omega),
      if_neg (show ¬ 768 + l.val - 128 - 128 - 128 - 128 - 128 < 128 by omega)]; rfl
  P a b := by rw [V_main_arg4]; rfl
  Q a b := by rw [V_main_arg5]; rfl
  tri := v37_at m c
  D := v41_at m c
  ow a b := by rw [V_main_arg9]; rfl
  fw a := by rw [V_main_arg10]; rfl
  fb := v42_at m c

/-- The kernel's result array: every batch row's prediction from the closed form. -/
def result : S64x1x1.Idx → EReal := fun i =>
  (weightsOf m c).out (Ssm.batch (m (c.tc.loc main_arg0)) (i 0)) ((weightsOf m c).closed (Ssm.batch (m (c.tc.loc main_arg0)) (i 0)))

/-- The windows' block indices: input and output rows move with the point, every other window stays. -/
theorem idx (t : Fin cfg0.N) : win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0, 0] := by
  revert t
  decide +kernel

/-- Window 1's block is its whole array. -/
theorem blk1 (t : Fin cfg0.N) : (iblk m c 1 t : Vec Ideal S48x12 .f32) = V m c main_arg1 := by
  funext y
  idx_vars y
  blk_ext [iblk, idx t]

/-- Window 2's block is its whole array. -/
theorem blk2 (t : Fin cfg0.N) : (iblk m c 2 t : Vec Ideal S384x896 .f32) = V m c main_v35 := by
  funext y
  idx_vars y
  blk_ext [iblk, idx t]

/-- Window 3's block is its whole array. -/
theorem blk3 (t : Fin cfg0.N) : (iblk m c 3 t : Vec Ideal S36x24 .f32) = V m c main_arg4 := by
  funext y
  idx_vars y
  blk_ext [iblk, idx t]

/-- Window 4's block is its whole array. -/
theorem blk4 (t : Fin cfg0.N) : (iblk m c 4 t : Vec Ideal S24x4 .f32) = V m c main_arg5 := by
  funext y
  idx_vars y
  blk_ext [iblk, idx t]

/-- Window 5's block of any contents is its whole array. -/
theorem blk5_of (t : Fin cfg0.N) (W : (b : Ref sig .tc) → Buf (Elt Ideal) (Thread.loc (τ := τ) c.tc b)) :
    (((cfg0.win 5).blk t).view.read (Elt Ideal) (W (Pipeline.arrRef spec0 5)) : Vec Ideal S512x512 .f32) = W main_v37 := by
  funext y
  idx_vars y
  blk_ext [idx t]

/-- Window 5's block is its whole array. -/
theorem blk5 (t : Fin cfg0.N) : (iblk m c 5 t : Vec Ideal S512x512 .f32) = V m c main_v37 :=
  blk5_of c t (V m c)

/-- Window 6's block is its whole array. -/
theorem blk6 (t : Fin cfg0.N) : (iblk m c 6 t : Vec Ideal S384x1 .f32) = V m c main_v41 := by
  funext y
  idx_vars y
  blk_ext [iblk, idx t]

/-- Window 7's block is its whole array. -/
theorem blk7 (t : Fin cfg0.N) : (iblk m c 7 t : Vec Ideal S12x24 .f32) = V m c main_arg9 := by
  funext y
  idx_vars y
  blk_ext [iblk, idx t]

/-- Window 8's block is its whole array. -/
theorem blk8 (t : Fin cfg0.N) : (iblk m c 8 t : Vec Ideal S1x12 .f32) = V m c main_arg10 := by
  funext y
  idx_vars y
  blk_ext [iblk, idx t]

/-- Window 9's block is its whole array. -/
theorem blk9 (t : Fin cfg0.N) : (iblk m c 9 t : Vec Ideal S1x1 .f32) = V m c main_v42 := by
  funext y
  idx_vars y
  blk_ext [iblk, idx t]

/-- The input window's block at point `t` holds batch rows 16t … 16t+15. -/
theorem in_block (t : Fin cfg0.N) (g : Fin 16) (k : Fin 12) (s : Fin 2048) (b : Fin 64) (hb : b.val = 16 * t.val + g.val) :
    (iblk m c 0 t : Vec Ideal S16x12x2048 .bf16) (ix3 g k s) = (V m c main_v1 : S64x12x2048.Idx → EReal) (ix3 b k s) := by
  blk_ext [iblk, idx t]

/-- The kernel's output array after the run. -/
theorem arr_eq : (dats m 0 c).arrAt 10 cfg0.N = result m c := by
  refine (dats m 0 c).arrAt_eq_of_covers 10 _ (by decide +kernel) fun t hf y => ?_
  blk_simp
  rw [after0_10, blk1, blk2, blk3, blk4, blk5, blk6, blk7, blk8, blk9]
  have hy : y = ix3 (y 0 : Fin 16) (0 : Fin 1) (0 : Fin 1) := funext fun a => match a with
    | ⟨0, _⟩ => rfl
    | ⟨1, _⟩ => Subsingleton.elim (α := Fin 1) _ _
    | ⟨2, _⟩ => Subsingleton.elim (α := Fin 1) _ _
  obtain ⟨g, hg⟩ : ∃ g : Fin 16, y = ix3 g (0 : Fin 1) (0 : Fin 1) := ⟨_, hy⟩
  subst hg
  have ht : t.val < 4 := t.isLt
  have hb : ((win0_10.blk t).view.emb (ix3 g (0 : Fin 1) (0 : Fin 1)) : S64x1x1.Idx) 0 = (⟨16 * t.val + g.val, by omega⟩ : Fin 64) := by
    apply Fin.ext
    blk_simp [idx t]
    exact show t.val * 16 + g.val = 16 * t.val + g.val by omega
  refine (out_apply (holds m c) g).trans ?_
  unfold result
  rw [hb]
  have hX : (fun t' k => (iblk m c 0 t : Vec Ideal S16x12x2048 .bf16) (ix3 g k t'))
      = Ssm.batch (m (c.tc.loc main_arg0)) ⟨16 * t.val + g.val, by omega⟩ := by
    funext s k
    rw [in_block m c t g k s ⟨16 * t.val + g.val, by omega⟩ rfl, v1_at]
    rfl
  rw [hX]

end Cert.KernelIdeal.Entry

end
-- ==== Proof.RefEntry.lean ====
/- What the reference holds when its scan starts, at one entry: the activated channels, the second projection, the step
   widths, the decays and the inputs of the state, in the shared vocabulary. Hand-written, untrusted. -/
module

public import proofs.«01_k».proof.Proof.Spec
public import proofs.«01_k».proof.Proof.Gen.ReferenceIdeal.Run
public import Idealize.ShloMosaic.Lib.StableHlo.ReadAt
public import Idealize.ShloMosaic.Lib.KernelVsHost
public import Idealize.ShloMosaic.Lib.Claim

@[expose] public section

set_option maxRecDepth 16384

noncomputable section

namespace Cert.ReferenceIdeal.Entry

open Idealize.ShloMosaic Idealize.SL.Sem Idealize.ShloMosaic.StableHlo Cert.ReferenceIdeal Cert.ReferenceIdeal.Gen

/-- An array of extended reals at an index. -/
abbrev rd (S : Shape) (A : S.Idx → EReal) (i : S.Idx) : EReal := A i

section Stretches

variable (W : Valuation τ sig (Elt Ideal))

/-- The padded first half of the projection: three zero steps, then the projection. -/
theorem v3_at (b : Fin 64) (t : Fin 2048) (d : Fin 24) (j : ℕ) (hj : j ≤ 3) :
    rd S64x2051x24 (after hostOps0_1 (after hostOps0 W) (Proc.devRef .tc main_v3)) (ix3 b ⟨j + t.val, by omega⟩ d)
      = Ssm.back (3 - j) (Ssm.xin (fun r k => rd S48x12 (W (Proc.devRef .tc main_arg1)) (ix2 r k))
          (Ssm.batch (W (Proc.devRef .tc main_arg0)) b) d) t := by
  after_reads_at
  unfold Ssm.back Ssm.xin Ssm.batch
  by_cases h : 3 ≤ j + t.val
  · rw [dif_pos ⟨h, by omega⟩, if_pos (show 3 - j ≤ t.val by omega)]
    refine Finset.sum_congr rfl fun x _ => ?_
    rw [mul_comm]
    refine congrArg₂ (fun p q : EReal => p * q) rfl (congrArg (fun q : Fin 2048 => rd S64x2048x12 (W (Proc.devRef .tc main_arg0)) (ix3 b q x))
      (Fin.ext (show j + t.val - 3 = t.val - (3 - j) by omega)))
  · rw [dif_neg (fun q => h q.1), if_neg (show ¬ 3 - j ≤ t.val by omega)]
    exact sitofp_zero (φ := .f32)

/-- The gate half of the projection. -/
theorem v2_at (b : Fin 64) (t : Fin 2048) (d : Fin 24) :
    rd S64x2048x24 (after hostOps0 W (Proc.devRef .tc main_v2)) (ix3 b t d)
      = ∑ k : Fin 12, rd S64x2048x12 (W (Proc.devRef .tc main_arg0)) (ix3 b t k)
          * rd S48x12 (W (Proc.devRef .tc main_arg1)) (ix2 ⟨24 + d.val, by omega⟩ k) := by
  after_reads_at

/-- The four-tap sum of the padded rows, first tap first. -/
def pre (b : Fin 64) (t : Fin 2048) (d : Fin 24) : EReal :=
  rd S64x2051x24 (W (Proc.devRef .tc main_v3)) (ix3 b ⟨t.val, by omega⟩ d) * rd S24x1x4 (W (Proc.devRef .tc main_arg2)) (ix3 d 0 0)
    + rd S64x2051x24 (W (Proc.devRef .tc main_v3)) (ix3 b ⟨1 + t.val, by omega⟩ d) * rd S24x1x4 (W (Proc.devRef .tc main_arg2)) (ix3 d 0 1)
    + rd S64x2051x24 (W (Proc.devRef .tc main_v3)) (ix3 b ⟨2 + t.val, by omega⟩ d) * rd S24x1x4 (W (Proc.devRef .tc main_arg2)) (ix3 d 0 2)
    + rd S64x2051x24 (W (Proc.devRef .tc main_v3)) (ix3 b ⟨3 + t.val, by omega⟩ d) * rd S24x1x4 (W (Proc.devRef .tc main_arg2)) (ix3 d 0 3)
    + rd S24 (W (Proc.devRef .tc main_arg3)) (ix1 d)

/-- The activated channels. -/
theorem v42_at (b : Fin 64) (t : Fin 2048) (d : Fin 24) :
    rd S64x2048x24 (after hostOps0_2 W (Proc.devRef .tc main_v42)) (ix3 b t d) = Ssm.silu (pre W b t d) := by
  after_reads_at
  rfl

/-- The part of the second projection that enters the state. -/
theorem v45_at (b : Fin 64) (t : Fin 2048) (s : Fin 16) :
    rd S64x2048x16 (after hostOps0_2 W (Proc.devRef .tc main_v45)) (ix3 b t s)
      = ∑ k : Fin 24, Ssm.silu (pre W b t k) * rd S36x24 (W (Proc.devRef .tc main_arg4)) (ix2 ⟨4 + s.val, by omega⟩ k) := by
  after_reads_at
  rfl

/-- The part of the second projection that reads the state. -/
theorem v46_at (b : Fin 64) (t : Fin 2048) (s : Fin 16) :
    rd S64x2048x16 (after hostOps0_2 W (Proc.devRef .tc main_v46)) (ix3 b t s)
      = ∑ k : Fin 24, Ssm.silu (pre W b t k) * rd S36x24 (W (Proc.devRef .tc main_arg4)) (ix2 ⟨20 + s.val, by omega⟩ k) := by
  after_reads_at
  rfl

/-- The step widths before the softplus. -/
theorem v50_at (b : Fin 64) (t : Fin 2048) (d : Fin 24) :
    rd S64x2048x24 (after hostOps0_2 W (Proc.devRef .tc main_v50)) (ix3 b t d)
      = ∑ j : Fin 4, (∑ k : Fin 24, Ssm.silu (pre W b t k) * rd S36x24 (W (Proc.devRef .tc main_arg4)) (ix2 ⟨j.val, by omega⟩ k))
          * rd S24x4 (W (Proc.devRef .tc main_arg5)) (ix2 d j) + rd S24 (W (Proc.devRef .tc main_arg6)) (ix1 d) := by
  after_reads_at
  rfl

/-- The softplus: its own test for an unordered value never fires. -/
theorem v51_at (b : Fin 64) (t : Fin 2048) (d : Fin 24) :
    rd S64x2048x24 (after hostOps0_3 W (Proc.devRef .tc main_v51)) (ix3 b t d)
      = Ssm.soft (rd S64x2048x24 (W (Proc.devRef .tc main_v50)) (ix3 b t d)) := by
  after_reads_at
  exact if_neg (fun h => h rfl)

/-- The decays of the state. -/
theorem c0_at (b : Fin 64) (t : Fin 2048) (d : Fin 24) (s : Fin 16) :
    rd S2048x64x24x16 (after hostOps0_4 W (Proc.devRef .tc main_v73_0)) (ix4 t b d s)
      = Ideal.exp (rd S64x2048x24 (W (Proc.devRef .tc main_v51)) (ix3 b t d)
          * -Ideal.exp (rd S24x16 (W (Proc.devRef .tc main_arg7)) (ix2 d s))) := by
  after_reads_at
  dsimp only [rd, id]
  pointwise

/-- The inputs of the state. -/
theorem c1_at (b : Fin 64) (t : Fin 2048) (d : Fin 24) (s : Fin 16) :
    rd S2048x64x24x16 (after hostOps0_4 W (Proc.devRef .tc main_v73_1)) (ix4 t b d s)
      = rd S64x2048x24 (W (Proc.devRef .tc main_v51)) (ix3 b t d) * rd S64x2048x16 (W (Proc.devRef .tc main_v45)) (ix3 b t s)
          * rd S64x2048x24 (W (Proc.devRef .tc main_v42)) (ix3 b t d) := by
  after_reads_at
  dsimp only [rd, id]
  pointwise

/-- The readers of the state. -/
theorem c2_at (b : Fin 64) (t : Fin 2048) (s : Fin 16) :
    rd S2048x64x16 (after hostOps0_4 W (Proc.devRef .tc main_v73_2)) (ix3 t b s)
      = rd S64x2048x16 (W (Proc.devRef .tc main_v46)) (ix3 b t s) := by
  after_reads_at
  dsimp only [rd, id]
  pointwise

/-- The state starts at zero. -/
theorem c4_at (b : Fin 64) (d : Fin 24) (s : Fin 16) :
    rd S64x24x16 (after hostOps0_4 W (Proc.devRef .tc main_v73_4)) (ix3 b d s) = 0 := by
  after_reads_at
  dsimp only [rd, id]
  pointwise

/-- The prediction from the last row of outputs. -/
theorem v95_at (i : S64x1x1.Idx) :
    rd S64x1x1 (after hostOps0_5 W (Proc.devRef .tc main_v95)) i
      = ∑ o : Fin 12, (∑ d : Fin 24,
            (rd S2048x64x24 (W (Proc.devRef .tc main_v73_5)) (ix3 2047 (i 0) d)
                + rd S64x2048x24 (W (Proc.devRef .tc main_v42)) (ix3 (i 0) 2047 d) * rd S24 (W (Proc.devRef .tc main_arg8)) (ix1 d))
              * Ssm.silu (rd S64x2048x24 (W (Proc.devRef .tc main_v2)) (ix3 (i 0) 2047 d))
              * rd S12x24 (W (Proc.devRef .tc main_arg9)) (ix2 o d))
            * rd S1x12 (W (Proc.devRef .tc main_arg10)) (ix2 0 o)
          + rd S1 (W (Proc.devRef .tc main_arg11)) (ix1 0) := by
  after_reads_at
  rfl

end Stretches

end Cert.ReferenceIdeal.Entry

end
-- ==== Proof.RefStep.lean ====
/- One trip of the reference's scan at an entry: the new state, and the last trip's row of outputs. Hand-written,
   untrusted. -/
module

public import proofs.«01_k».proof.Proof.RefEntry

@[expose] public section

set_option maxRecDepth 16384

noncomputable section

namespace Cert.ReferenceIdeal.Entry

open Idealize.ShloMosaic Idealize.SL.Sem Idealize.ShloMosaic.StableHlo Cert.ReferenceIdeal Cert.ReferenceIdeal.Gen

variable (W : Valuation τ sig (Elt Ideal))

/-- A trip's number as a word. -/
theorem start_word (n : ℕ) (hn : n < 2048) : (Scf.iv 0#32 1#32 n).toInt = n := by
  unfold Scf.iv
  rw [BitVec.toInt_eq_toNat_cond]
  simp only [BitVec.toNat_add, BitVec.toNat_mul, BitVec.toNat_ofNat]
  omega

/-- A start of zero moves no index. -/
theorem start_zero {S T : Shape} (h : T.rank = S.rank) (st : Fin S.rank → Int) (a : Fin S.rank) (x : ℕ) (hs : st a = 0)
    (hle : T.size (a.cast h.symm) ≤ S.size a) : Host.clampedStart S T h st a + x = x := by
  rw [Host.clampedStart_of_le h st a 0 hs (by omega), Nat.zero_add]

/-- A start of zero moves no index back. -/
theorem sub_start_zero {S T : Shape} (h : T.rank = S.rank) (st : Fin S.rank → Int) (a : Fin S.rank) (x : ℕ) (hs : st a = 0)
    (hle : T.size (a.cast h.symm) ≤ S.size a) : x - Host.clampedStart S T h st a = x := by
  rw [Host.clampedStart_of_le h st a 0 hs (by omega), Nat.sub_zero]

/-- Two 4-axis indices with equal parts. -/
theorem ix4_congr {n0 n1 n2 n3 : ℕ} {a a' : Fin n0} {b b' : Fin n1} {e e' : Fin n2} {f f' : Fin n3} (ha : a.val = a'.val)
    (hb : b.val = b'.val) (he : e.val = e'.val) (hf : f.val = f'.val) : ix4 a b e f = ix4 a' b' e' f' := by
  rw [Fin.ext ha, Fin.ext hb, Fin.ext he, Fin.ext hf]

/-- Two 3-axis indices with equal parts. -/
theorem ix3_congr {n0 n1 n2 : ℕ} {a a' : Fin n0} {b b' : Fin n1} {e e' : Fin n2} (ha : a.val = a'.val)
    (hb : b.val = b'.val) (he : e.val = e'.val) : ix3 a b e = ix3 a' b' e' := by
  rw [Fin.ext ha, Fin.ext hb, Fin.ext he]

/-- The new state: the trip's decay times the old one, plus the trip's input. -/
theorem v100_at (b : Fin 64) (d : Fin 24) (s : Fin 16) (n : Fin 2048)
    (hc : W (Proc.devRef .tc main_v73_3) = fun _ => Scf.iv 0#32 1#32 n.val) :
    rd S64x24x16 (Value.res_main_while0b_v100 W) (ix3 b d s)
      = rd S2048x64x24x16 (W (Proc.devRef .tc main_v73_0)) (ix4 n b d s) * rd S64x24x16 (W (Proc.devRef .tc main_v73_4)) (ix3 b d s)
        + rd S2048x64x24x16 (W (Proc.devRef .tc main_v73_1)) (ix4 n b d s) := by
  unfold Value.res_main_while0b_v100
  rw [hc]
  have hw := start_word n.val n.isLt
  generalize Scf.iv 0#32 1#32 n.val = w at hw ⊢
  pointwise
  refine congrArg₂ (· + ·) (congrArg (· * _) (congrArg _ ?_)) (congrArg _ ?_) <;>
  refine ix4_congr ?_ (start_zero _ _ _ _ rfl (by decide)) (start_zero _ _ _ _ rfl (by decide)) (start_zero _ _ _ _ rfl (by decide)) <;>
  · dsimp only
    rw [Host.clampedStart_of_le _ _ _ n.val hw]
    exact Nat.succ_le_of_lt n.isLt

/-- The last trip's row of outputs: the new state against the trip's readers. -/
theorem row_at (b : Fin 64) (d : Fin 24) (hc : W (Proc.devRef .tc main_v73_3) = fun _ => Scf.iv 0#32 1#32 2047) :
    rd S2048x64x24 (Value.step_main_v73_5 W) (ix3 2047 b d)
      = ∑ s : Fin 16, rd S64x24x16 (Value.res_main_while0b_v100 W) (ix3 b d s) * rd S2048x64x16 (W (Proc.devRef .tc main_v73_2)) (ix3 2047 b s) := by
  unfold Value.step_main_v73_5
  rw [hc]
  dsimp only [id, rd]
  pointwise
  refine (dif_pos fun a => ?_).trans (Finset.sum_congr rfl fun s _ => congrArg₂ (· * ·) (congrArg _ ?_) (congrArg _ ?_))
  · match a with
    | ⟨0, _⟩ =>
      rw [Host.clampedStart_of_le _ _ _ 2047 (start_word 2047 (by decide)) (show 2047 + 1 ≤ 2048 by decide)]
      exact ⟨le_refl 2047, show 2047 < 2047 + 1 by decide⟩
    | ⟨1, _⟩ =>
      rw [Host.clampedStart_of_le _ _ _ 0 rfl (show 0 + 64 ≤ 64 by decide)]
      exact ⟨Nat.zero_le _, (Nat.zero_add 64).symm ▸ b.isLt⟩
    | ⟨2, _⟩ =>
      rw [Host.clampedStart_of_le _ _ _ 0 rfl (show 0 + 24 ≤ 24 by decide)]
      exact ⟨Nat.zero_le _, (Nat.zero_add 24).symm ▸ d.isLt⟩
  · exact ix3_congr (sub_start_zero _ _ _ _ rfl (by decide)) (sub_start_zero _ _ _ _ rfl (by decide)) rfl
  · refine ix3_congr rfl ?_ (start_zero _ _ _ _ rfl (by decide))
    exact (start_zero _ _ _ _ rfl (by decide)).trans (sub_start_zero _ _ _ _ rfl (by decide))
end Cert.ReferenceIdeal.Entry

end
-- ==== Proof.RefRead.lean ====
/- The reference's result: the scan's state trip by trip is the recurrence, and every batch row's prediction is the
   recurrence's. Hand-written, untrusted. -/
module

public import proofs.«01_k».proof.Proof.RefStep

@[expose] public section

set_option maxRecDepth 16384

noncomputable section

namespace Cert.ReferenceIdeal.Entry

open Idealize.ShloMosaic Idealize.SL.Sem Idealize.ShloMosaic.StableHlo Cert.ReferenceIdeal Cert.ReferenceIdeal.Gen Cert.ReferenceIdeal.Value

variable (m : (ℓ : Loc nD τ sig) → Buf (Elt Ideal) ℓ) (c : Dev nD)

/-- The parameters the arguments hold. -/
abbrev weightsOf : Ssm.Weights :=
  Ssm.weights (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))
    (m (c.tc.loc main_arg9)) (m (c.tc.loc main_arg10)) (m (c.tc.loc main_arg11))

/-- Batch row `b` of the input. -/
abbrev rowOf (b : Fin 64) : Fin 2048 → Fin 12 → EReal := Ssm.batch (m (c.tc.loc main_arg0)) b

/-- The buffers before the convolution. -/
abbrev A1 : Valuation τ sig (Elt Ideal) := after hostOps0_1 (after hostOps0 (launchContents m c))
/-- The buffers before the softplus. -/
abbrev A2 : Valuation τ sig (Elt Ideal) := after hostOps0_2 (A1 m c)
/-- The buffers after the softplus. -/
abbrev A3 : Valuation τ sig (Elt Ideal) := after hostOps0_3 (A2 m c)

/-- A buffer neither the projection nor the padding writes. -/
theorem A1_keep (r : Ref sig .tc) (h : r ∉ hostOps0_W ++ hostOps0_1_W) :
    A1 m c (Proc.devRef .tc r) = launchContents m c (Proc.devRef .tc r) :=
  (after_of_writes_sub hostOps0_1 _ hostOps0_1_writes (fun q => h (List.mem_append_right _ q))).trans
    (after_of_writes_sub hostOps0 _ hostOps0_writes (fun q => h (List.mem_append_left _ q)))

/-- A buffer the convolution's stretch does not write. -/
theorem A2_keep (r : Ref sig .tc) (h : r ∉ hostOps0_2_W) : A2 m c (Proc.devRef .tc r) = A1 m c (Proc.devRef .tc r) :=
  after_of_writes_sub hostOps0_2 _ hostOps0_2_writes h

/-- A buffer the softplus does not write. -/
theorem A3_keep (r : Ref sig .tc) (h : r ∉ hostOps0_3_W) : A3 m c (Proc.devRef .tc r) = A2 m c (Proc.devRef .tc r) :=
  after_of_writes_sub hostOps0_3 _ hostOps0_3_writes h

/-- A buffer the last stretch before the scan does not write. -/
theorem E_keep (r : Ref sig .tc) (h : r ∉ hostOps0_4_W) :
    entryContents Value.preI m c (Proc.devRef .tc r) = A3 m c (Proc.devRef .tc r) :=
  after_of_writes_sub hostOps0_4 (A3 m c) hostOps0_4_writes h

/-- Everything a trip writes, its condition included. -/
abbrev loopW : List (Ref sig .tc) :=
  condOps_W ++ (while0Ops0_W ++ (while0Ops0_1_W ++ (while0Ops0_2_W ++ (while0Ops0_3_W ++ (while0Ops0_4_W ++ while0Ops0_5_W)))))

/-- A buffer no trip writes is at every trip what it was when the scan started. -/
theorem trips_keep (r : Ref sig .tc) (h : r ∉ loopW) :
    ∀ k, Value.atK m k c (Proc.devRef .tc r) = entryContents Value.preI m c (Proc.devRef .tc r)
  | 0 => rfl
  | k + 1 => by
    simp only [loopW, List.mem_append, not_or] at h
    obtain ⟨hc, h0, h1, h2, h3, h4, h5⟩ := h
    refine Eq.trans ?_ (trips_keep r (by simp only [loopW, List.mem_append, not_or]; exact ⟨hc, h0, h1, h2, h3, h4, h5⟩) k)
    exact (after_of_writes_sub while0Ops0_5 _ while0Ops0_5_writes h5).trans
      ((after_of_writes_sub while0Ops0_4 _ while0Ops0_4_writes h4).trans
      ((after_of_writes_sub while0Ops0_3 _ while0Ops0_3_writes h3).trans
      ((after_of_writes_sub while0Ops0_2 _ while0Ops0_2_writes h2).trans
      ((after_of_writes_sub while0Ops0_1 _ while0Ops0_1_writes h1).trans
      ((after_of_writes_sub while0Ops0 _ while0Ops0_writes h0).trans
      (after_of_writes_sub condOps _ condOps_writes hc))))))

/-- Four terms added in the other order. -/
theorem add_reverse (p q r s : EReal) : p + q + r + s = s + r + q + p := by ac_rfl

/-- The four-tap sum is the causal convolution. -/
theorem pre_eq (b : Fin 64) (t : Fin 2048) (d : Fin 24) :
    pre (A1 m c) b t d
      = Ssm.conv (weightsOf m c).tap (weightsOf m c).bias (Ssm.xin (weightsOf m c).W (rowOf m c b)) d t := by
  have h0 := v3_at (launchContents m c) b t d 0 (by decide)
  have h1 := v3_at (launchContents m c) b t d 1 (by decide)
  have h2 := v3_at (launchContents m c) b t d 2 (by decide)
  have h3 := v3_at (launchContents m c) b t d 3 (by decide)
  have e0 : (⟨0 + t.val, by omega⟩ : Fin 2051) = ⟨t.val, by omega⟩ := Fin.ext (Nat.zero_add _)
  rw [e0] at h0
  unfold pre
  rw [h0, h1, h2, h3, A1_keep m c main_arg2 (by decide), A1_keep m c main_arg3 (by decide)]
  unfold Ssm.conv
  refine congrArg₂ (fun p q : EReal => p + q) ?_ rfl
  rw [show Ssm.back (3 - 3) (Ssm.xin (fun r k => rd S48x12 (launchContents m c (Proc.devRef .tc main_arg1)) (ix2 r k))
      (Ssm.batch (launchContents m c (Proc.devRef .tc main_arg0)) b) d) t
      = Ssm.xin (weightsOf m c).W (rowOf m c b) d t from if_pos (Nat.zero_le _)]
  exact add_reverse _ _ _ _

/-- The activated channels. -/
theorem act_eq (b : Fin 64) (t : Fin 2048) (d : Fin 24) :
    Ssm.silu (pre (A1 m c) b t d) = (weightsOf m c).act (rowOf m c b) d t := by
  rw [pre_eq]; rfl

/-- A row of the second projection. -/
theorem mix_eq (b : Fin 64) (t : Fin 2048) (j : Fin 36) :
    ∑ k : Fin 24, Ssm.silu (pre (A1 m c) b t k) * rd S36x24 (A1 m c (Proc.devRef .tc main_arg4)) (ix2 j k)
      = (weightsOf m c).mix (rowOf m c b) j t := by
  unfold Ssm.Weights.mix Ssm.proj
  refine Finset.sum_congr rfl fun k _ => ?_
  rw [act_eq, A1_keep m c main_arg4 (by decide)]
  exact mul_comm _ _

/-- The step widths. -/
theorem steps_eq (b : Fin 64) (t : Fin 2048) (d : Fin 24) :
    rd S64x2048x24 (A3 m c (Proc.devRef .tc main_v51)) (ix3 b t d) = (weightsOf m c).steps (rowOf m c b) d t := by
  rw [v51_at, v50_at, A1_keep m c main_arg5 (by decide), A1_keep m c main_arg6 (by decide)]
  refine congrArg Ssm.soft (congrArg₂ (fun p q : EReal => p + q) (Finset.sum_congr rfl fun j _ => ?_) rfl)
  rw [mix_eq]
  exact mul_comm _ _

/-- The channels before the scan. -/
theorem A3_v42 (b : Fin 64) (t : Fin 2048) (d : Fin 24) :
    rd S64x2048x24 (A3 m c (Proc.devRef .tc main_v42)) (ix3 b t d) = (weightsOf m c).act (rowOf m c b) d t := by
  rw [A3_keep m c main_v42 (by decide), v42_at, act_eq]

/-- The decays the scan starts with. -/
theorem entry0 (b : Fin 64) (t : Fin 2048) (d : Fin 24) (s : Fin 16) :
    rd S2048x64x24x16 (entryContents Value.preI m c (Proc.devRef .tc main_v73_0)) (ix4 t b d s)
      = Ideal.exp ((weightsOf m c).steps (rowOf m c b) d t * (weightsOf m c).rate d s) := by
  refine (c0_at (A3 m c) b t d s).trans ?_
  rw [steps_eq, A3_keep m c main_arg7 (by decide), A2_keep m c main_arg7 (by decide), A1_keep m c main_arg7 (by decide)]
  rfl

/-- The inputs the scan starts with. -/
theorem entry1 (b : Fin 64) (t : Fin 2048) (d : Fin 24) (s : Fin 16) :
    rd S2048x64x24x16 (entryContents Value.preI m c (Proc.devRef .tc main_v73_1)) (ix4 t b d s)
      = (weightsOf m c).steps (rowOf m c b) d t * (weightsOf m c).mix (rowOf m c b) ⟨4 + s.val, by omega⟩ t
          * (weightsOf m c).act (rowOf m c b) d t := by
  refine (c1_at (A3 m c) b t d s).trans ?_
  rw [steps_eq, A3_v42, A3_keep m c main_v45 (by decide), v45_at, mix_eq]

/-- The readers the scan starts with. -/
theorem entry2 (b : Fin 64) (t : Fin 2048) (s : Fin 16) :
    rd S2048x64x16 (entryContents Value.preI m c (Proc.devRef .tc main_v73_2)) (ix3 t b s)
      = (weightsOf m c).mix (rowOf m c b) ⟨20 + s.val, by omega⟩ t := by
  refine (c2_at (A3 m c) b t s).trans ?_
  rw [A3_keep m c main_v46 (by decide), v46_at, mix_eq]

/-- What a carried buffer holds after `k` trips: the iterated step. -/
theorem carried (k : ℕ) (r : Ref sig .tc) (h : r ∈ Value.carriedRefs) :
    Value.atK m (k + 1) c (Proc.devRef .tc r) = Value.STEP (Value.atK m k c) (Proc.devRef .tc r) :=
  Value.trip_agree (Value.atK m k c) r h

/-- The decays stay as they are. -/
theorem dec_keep : ∀ k, Value.atK m k c (Proc.devRef .tc main_v73_0) = entryContents Value.preI m c (Proc.devRef .tc main_v73_0)
  | 0 => rfl
  | k + 1 => (carried m c k main_v73_0 (by decide)).trans ((Value.STEP_main_v73_0 _).trans (dec_keep k))

/-- The inputs stay as they are. -/
theorem inp_keep : ∀ k, Value.atK m k c (Proc.devRef .tc main_v73_1) = entryContents Value.preI m c (Proc.devRef .tc main_v73_1)
  | 0 => rfl
  | k + 1 => (carried m c k main_v73_1 (by decide)).trans ((Value.STEP_main_v73_1 _).trans (inp_keep k))

/-- The readers stay as they are. -/
theorem read_keep : ∀ k, Value.atK m k c (Proc.devRef .tc main_v73_2) = entryContents Value.preI m c (Proc.devRef .tc main_v73_2)
  | 0 => rfl
  | k + 1 => (carried m c k main_v73_2 (by decide)).trans ((Value.STEP_main_v73_2 _).trans (read_keep k))

/-- One trip's new state from the old one. -/
theorem trip_state (b : Fin 64) (d : Fin 24) (s : Fin 16) (k : ℕ) (hk : k < 2048)
    (ih : rd S64x24x16 (Value.atK m k c (Proc.devRef .tc main_v73_4)) (ix3 b d s) = (weightsOf m c).state (rowOf m c b) d s k) :
    rd S64x24x16 (Value.res_main_while0b_v100 (Value.atK m k c)) (ix3 b d s)
      = (weightsOf m c).state (rowOf m c b) d s (k + 1) := by
  rw [v100_at (Value.atK m k c) b d s ⟨k, hk⟩ (Value.atK_ctr m c k), ih, dec_keep, inp_keep, entry0, entry1]
  rw [Ssm.Weights.state, dif_pos hk]

/-- After `k` trips the carried state is the recurrence's. -/
theorem state_eq (b : Fin 64) (d : Fin 24) (s : Fin 16) : ∀ k, k ≤ 2048 →
    rd S64x24x16 (Value.atK m k c (Proc.devRef .tc main_v73_4)) (ix3 b d s) = (weightsOf m c).state (rowOf m c b) d s k
  | 0, _ => c4_at (A3 m c) b d s
  | k + 1, h => by
    rw [carried m c k main_v73_4 (by decide), Value.STEP_main_v73_4]
    exact trip_state m c b d s k h (state_eq b d s k (by omega))

/-- After the last trip the last row of outputs is the last state against its readers. -/
theorem last_row (b : Fin 64) (d : Fin 24) :
    rd S2048x64x24 (Value.atK m 2048 c (Proc.devRef .tc main_v73_5)) (ix3 2047 b d)
      = ∑ s : Fin 16, (weightsOf m c).state (rowOf m c b) d s 2048
          * (weightsOf m c).mix (rowOf m c b) ⟨20 + s.val, by omega⟩ 2047 := by
  rw [carried m c 2047 main_v73_5 (by decide), Value.STEP_main_v73_5, row_at (Value.atK m 2047 c) b d (Value.atK_ctr m c 2047)]
  refine Finset.sum_congr rfl fun s _ => ?_
  rw [trip_state m c b d s 2047 (by decide) (state_eq m c b d s 2047 (by decide)), read_keep, entry2]

/-- The buffers after the scan. -/
abbrev A5 : Valuation τ sig (Elt Ideal) := after condOps (Value.atK m 2048 c)

/-- A buffer the scan does not write, after the scan. -/
theorem A5_keep (r : Ref sig .tc) (h : r ∉ loopW) :
    A5 m c (Proc.devRef .tc r) = entryContents Value.preI m c (Proc.devRef .tc r) :=
  (after_of_writes_sub condOps _ condOps_writes (fun q => h (List.mem_append_left _ q))).trans (trips_keep m c r h 2048)

/-- An argument after the scan. -/
theorem A5_arg (r : Ref sig .tc) (h : r ∉ loopW ++ (hostOps0_4_W ++ (hostOps0_3_W ++ (hostOps0_2_W ++ (hostOps0_W ++ hostOps0_1_W))))) :
    A5 m c (Proc.devRef .tc r) = launchContents m c (Proc.devRef .tc r) := by
  have h1 := fun q => h (List.mem_append_right _ q)
  have h2 := fun q => h1 (List.mem_append_right _ q)
  have h3 := fun q => h2 (List.mem_append_right _ q)
  rw [A5_keep m c r fun q => h (List.mem_append_left _ q), E_keep m c r fun q => h1 (List.mem_append_left _ q),
    A3_keep m c r fun q => h2 (List.mem_append_left _ q), A2_keep m c r fun q => h3 (List.mem_append_left _ q),
    A1_keep m c r fun q => h3 (List.mem_append_right _ q)]

/-- A buffer the reference never writes ends as it started. -/
theorem final_arg (r : Ref sig .tc)
    (h : r ∉ loopW ++ (hostOps0_4_W ++ (hostOps0_3_W ++ (hostOps0_2_W ++ (hostOps0_W ++ hostOps0_1_W)))))
    (h5 : ∀ op ∈ (hostOps0_5 : List (HloOp τ sig (Elt Ideal))), (Proc.devRef .tc r : DevRef τ sig) ∉ op.writes) :
    finalContents condOps Value.preI Value.bodyI Value.postI 2048 m c (Proc.devRef .tc r) = launchContents m c (Proc.devRef .tc r) :=
  (after_of_forall_not_mem hostOps0_5 (A5 m c) h5).trans (A5_arg m c r h)

/-- The reference's result array: every batch row's prediction from the recurrence. -/
def result : S64x1x1.Idx → EReal := fun i =>
  (weightsOf m c).out (rowOf m c (i 0)) ((weightsOf m c).scanned (rowOf m c (i 0)))

/-- The scan's last row of outputs, after its last condition. -/
theorem scan_row (b : Fin 64) (d : Fin 24) :
    rd S2048x64x24 (A5 m c (Proc.devRef .tc main_v73_5)) (ix3 2047 b d)
      = ∑ s : Fin 16, (weightsOf m c).state (rowOf m c b) d s 2048
          * (weightsOf m c).mix (rowOf m c b) ⟨20 + s.val, by omega⟩ 2047 := by
  rw [show A5 m c (Proc.devRef .tc main_v73_5) = Value.atK m 2048 c (Proc.devRef .tc main_v73_5) from
    after_of_writes_sub condOps _ condOps_writes (by decide), last_row]

/-- The gate rows of the last step. -/
theorem gate_eq (b : Fin 64) (d : Fin 24) :
    rd S64x2048x24 (A5 m c (Proc.devRef .tc main_v2)) (ix3 b 2047 d) = Ssm.zlast (weightsOf m c).W (rowOf m c b) d := by
  rw [A5_keep m c main_v2 (by decide), E_keep m c main_v2 (by decide), A3_keep m c main_v2 (by decide),
    A2_keep m c main_v2 (by decide),
    show A1 m c (Proc.devRef .tc main_v2) = after hostOps0 (launchContents m c) (Proc.devRef .tc main_v2) from
      after_of_writes_sub hostOps0_1 _ hostOps0_1_writes (by decide), v2_at]
  unfold Ssm.zlast
  exact Finset.sum_congr rfl fun k _ => mul_comm _ _

/-- The prediction of a batch row from the last row of outputs. -/
theorem head_eq (b : Fin 64) :
    ∑ o : Fin 12, (∑ d : Fin 24,
            (rd S2048x64x24 (A5 m c (Proc.devRef .tc main_v73_5)) (ix3 2047 b d)
                + rd S64x2048x24 (A5 m c (Proc.devRef .tc main_v42)) (ix3 b 2047 d) * rd S24 (A5 m c (Proc.devRef .tc main_arg8)) (ix1 d))
              * Ssm.silu (rd S64x2048x24 (A5 m c (Proc.devRef .tc main_v2)) (ix3 b 2047 d))
              * rd S12x24 (A5 m c (Proc.devRef .tc main_arg9)) (ix2 o d))
            * rd S1x12 (A5 m c (Proc.devRef .tc main_arg10)) (ix2 0 o)
          + rd S1 (A5 m c (Proc.devRef .tc main_arg11)) (ix1 0)
      = (weightsOf m c).out (rowOf m c b) ((weightsOf m c).scanned (rowOf m c b)) := by
  rw [A5_arg m c main_arg8 (by decide), A5_arg m c main_arg9 (by decide), A5_arg m c main_arg10 (by decide),
    A5_arg m c main_arg11 (by decide)]
  unfold Ssm.Weights.out Ssm.head
  refine congrArg₂ (fun p q : EReal => p + q) (Finset.sum_congr rfl fun o _ => ?_) rfl
  rw [mul_comm]
  refine congrArg₂ (fun p q : EReal => p * q) rfl (Finset.sum_congr rfl fun d _ => ?_)
  rw [mul_comm]
  refine congrArg₂ (fun p q : EReal => p * q) rfl (congrArg₂ (fun p q : EReal => p * q) ?_ (congrArg Ssm.silu ?_))
  · unfold Ssm.Weights.scanned
    rw [scan_row, A5_keep m c main_v42 (by decide), E_keep m c main_v42 (by decide), A3_v42]
    rfl
  · exact gate_eq m c b d

/-- The reference's result. -/
theorem final_eq :
    (finalContents condOps Value.preI Value.bodyI Value.postI 2048 m c (Proc.devRef .tc main_v95) : S64x1x1.Idx → EReal)
      = result m c := by
  funext i
  exact (v95_at (A5 m c) i).trans (head_eq m c (i 0))

end Cert.ReferenceIdeal.Entry

end
-- ==== Proof.Math.lean ====
/- The closed form is the recurrence: on finite inputs, with decay rates in the ratio 1 : 2 : … : 16, the last output of
   every channel is the same extended real. Hand-written, untrusted. -/
module

public import proofs.«01_k».proof.Proof.Spec

@[expose] public section

noncomputable section

namespace Cert.Ssm

open Idealize.ShloMosaic

/-- The value is a real number. -/
def IsReal (v : EReal) : Prop := ∃ r : ℝ, v = (r : EReal)

/-- A sum of two real numbers is one. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- A product of two real numbers is one. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of real numbers, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A finite sum of real numbers is one. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- Zero is a real number. -/
theorem IsReal.zero : IsReal 0 := ⟨0, rfl⟩

/-- The activation of a real number is one. -/
theorem IsReal.silu {v : EReal} (h : IsReal v) : IsReal (silu v) := by
  obtain ⟨r, rfl⟩ := h
  refine IsReal.mul ⟨r, rfl⟩ ?_
  have h1 : (1 : EReal) + Ideal.exp (-(r : EReal)) = ((1 + Real.exp (-r) : ℝ) : EReal) := by
    rw [← EReal.coe_neg, Ideal.exp_coe, EReal.coe_add]; rfl
  rw [h1, Ideal.div_coe (by positivity)]
  exact IsReal.mul ⟨1, rfl⟩ ⟨_, rfl⟩

/-- The softplus of a real number is a nonnegative one. -/
theorem soft_real {v : EReal} (h : IsReal v) : ∃ r : ℝ, 0 ≤ r ∧ soft v = (r : EReal) := by
  obtain ⟨r, rfl⟩ := h
  have hmax : ∀ x y : ℝ, max (x : EReal) (y : EReal) = ((max x y : ℝ) : EReal) := fun x y =>
    (EReal.coe_strictMono.monotone.map_max).symm
  refine ⟨max r 0 + Real.log (1 + Real.exp (-(max r (-r)))), ?_, ?_⟩
  · have := Real.log_nonneg (show (1 : ℝ) ≤ 1 + Real.exp (-(max r (-r))) by linarith [Real.exp_pos (-(max r (-r)))])
    have := le_max_right r 0
    linarith
  · have h1 : FloatOps.absf (F := Ideal) (φ := .f32) (r : EReal) = ((max r (-r) : ℝ) : EReal) := by
      rw [← hmax, EReal.coe_neg]; rfl
    unfold soft
    rw [h1, ← EReal.coe_neg, Ideal.exp_coe]
    have h2 : Ideal.log1p ((Real.exp (-(max r (-r))) : ℝ) : EReal) = ((Real.log (1 + Real.exp (-(max r (-r)))) : ℝ) : EReal) := by
      unfold Ideal.log1p
      rw [show (1 : EReal) + ((Real.exp (-(max r (-r))) : ℝ) : EReal) = ((1 + Real.exp (-(max r (-r))) : ℝ) : EReal) from
        (EReal.coe_add 1 _).symm]
      exact if_neg (by have := Real.exp_pos (-(max r (-r))); linarith)
    rw [h2, EReal.coe_add, ← hmax]
    rfl

/-- The finite inputs: all that the channels, the coefficients and the step widths are made of. -/
structure Finite (w : Weights) (X : Fin 2048 → Fin 12 → EReal) : Prop where
  X : ∀ t k, IsReal (X t k)
  W : ∀ (d : Fin 24) k, IsReal (w.W ⟨d.val, by omega⟩ k)
  tap : ∀ d j, IsReal (w.tap d j)
  bias : ∀ d, IsReal (w.bias d)
  P : ∀ a b, IsReal (w.P a b)
  Q : ∀ a b, IsReal (w.Q a b)
  db : ∀ d, IsReal (w.db d)

/-- A row of real numbers moved later is one. -/
theorem IsReal.back {f : Fin 2048 → EReal} (h : ∀ t, IsReal (f t)) (k : ℕ) (t : Fin 2048) : IsReal (back k f t) := by
  unfold Ssm.back
  split_ifs
  · exact h _
  · exact IsReal.zero

section
variable {w : Weights} {X : Fin 2048 → Fin 12 → EReal} (H : Finite w X)
include H

/-- The activated channels are real numbers. -/
theorem Finite.act (d : Fin 24) (t : Fin 2048) : IsReal (w.act X d t) := by
  have hx : ∀ t, IsReal (xin w.W X d t) := fun t => IsReal.sum fun k => (H.W _ _).mul (H.X _ _)
  refine IsReal.silu (IsReal.add (IsReal.add (IsReal.add (IsReal.add ?_ ?_) ?_) ?_) (H.bias d))
  · exact (hx t).mul (H.tap _ _)
  · exact (IsReal.back hx _ _).mul (H.tap _ _)
  · exact (IsReal.back hx _ _).mul (H.tap _ _)
  · exact (IsReal.back hx _ _).mul (H.tap _ _)

/-- The coefficients are real numbers. -/
theorem Finite.mix (j : Fin 36) (t : Fin 2048) : IsReal (w.mix X j t) := by
  unfold Weights.mix proj
  exact IsReal.sum fun d => (H.P j d).mul (H.act d t)

/-- The step widths are nonnegative real numbers. -/
theorem Finite.steps (d : Fin 24) (t : Fin 2048) : ∃ r : ℝ, 0 ≤ r ∧ w.steps X d t = (r : EReal) :=
  soft_real (IsReal.add (IsReal.sum fun j => (H.Q _ _).mul (H.mix _ t)) (H.db d))

end

/-- A channel's decay over a width, as a real function: it turns sums into products, and state `s` decays as its power
    `s + 1`. -/
theorem decay_fun (l : Fin 16 → EReal) (hl : ∀ s : Fin 16, l s = l 0 + Ideal.log ((s.val + 1 : ℝ) : EReal)) :
    ∃ g : ℝ → ℝ, g 0 = 1 ∧ (∀ x y, 0 ≤ x → 0 ≤ y → g (x + y) = g x * g y)
      ∧ ∀ s : Fin 16, ∀ x : ℝ, 0 ≤ x → Ideal.exp ((x : EReal) * -Ideal.exp (l s)) = ((g x ^ (s.val + 1) : ℝ) : EReal) := by
  have hlog : ∀ s : Fin 16, Ideal.log ((s.val + 1 : ℝ) : EReal) = ((Real.log (s.val + 1) : ℝ) : EReal) := fun s =>
    if_neg (by have : (0 : ℝ) < s.val + 1 := by positivity
               linarith)
  generalize l 0 = l0 at hl
  induction l0 with
  | bot =>
    refine ⟨fun _ => 1, rfl, fun _ _ _ _ => (mul_one 1).symm, fun s x _ => ?_⟩
    rw [hl s, EReal.bot_add]
    show Ideal.exp ((x : EReal) * -0) = _
    rw [neg_zero, mul_zero, one_pow]
    exact (Ideal.exp_coe (r := 0)).trans (by rw [Real.exp_zero])
  | top =>
    refine ⟨fun x => if x = 0 then 1 else 0, if_pos rfl, fun x y hx hy => ?_, fun s x hx => ?_⟩
    · dsimp only
      by_cases h : x = 0
      · rw [h, zero_add, if_pos rfl, one_mul]
      · rw [if_neg h, zero_mul, if_neg (by have := lt_of_le_of_ne hx (Ne.symm h); linarith)]
    · rw [hl s, hlog s, EReal.top_add_coe]
      show Ideal.exp ((x : EReal) * -⊤) = _
      rw [EReal.neg_top]
      dsimp only
      by_cases h : x = 0
      · rw [h, if_pos rfl, one_pow, EReal.coe_zero, zero_mul]
        exact (Ideal.exp_coe (r := 0)).trans (by rw [Real.exp_zero])
      · rw [if_neg h, zero_pow (Nat.succ_ne_zero _), EReal.coe_mul_bot_of_pos (lt_of_le_of_ne hx (Ne.symm h))]
        rfl
  | coe r =>
    refine ⟨fun x => Real.exp (-(x * Real.exp r)), ?_, fun x y _ _ => ?_, fun s x _ => ?_⟩
    · simp
    · dsimp only
      rw [← Real.exp_add]
      congr 1
      ring
    · rw [hl s, hlog s, ← EReal.coe_add, Ideal.exp_coe, ← EReal.coe_neg, ← EReal.coe_mul, Ideal.exp_coe,
        ← Real.exp_nat_mul, Real.exp_add, Real.exp_log (by positivity)]
      congr 2
      push_cast
      ring

/-- A function that turns sums of two nonnegative numbers into products turns every finite one. -/
theorem fun_sum (g : ℝ → ℝ) (h0 : g 0 = 1) (ha : ∀ x y, 0 ≤ x → 0 ≤ y → g (x + y) = g x * g y) (p : ℕ → ℝ)
    (hp : ∀ n, 0 ≤ p n) (S : Finset ℕ) : g (∑ u ∈ S, p u) = ∏ u ∈ S, g (p u) := by
  classical
  induction S using Finset.induction_on with
  | empty => simpa using h0
  | insert a S h ih =>
    rw [Finset.sum_insert h, Finset.prod_insert h, ha _ _ (hp a) (Finset.sum_nonneg fun u _ => hp u), ih]

/-- Horner's rule on real numbers is the sum of the powers. -/
theorem poly_real (e : ℝ) : ∀ (n : ℕ) (c : Fin n → ℝ),
    poly n (fun i => (c i : EReal)) (e : EReal) = ((∑ i : Fin n, c i * e ^ i.val : ℝ) : EReal)
  | 0, _ => by simp [poly]
  | n + 1, c => by
    rw [poly, poly_real e n (fun i => c i.succ), Fin.sum_univ_succ, ← EReal.coe_mul, ← EReal.coe_add, Finset.sum_mul]
    congr 2
    · simp
    · refine Finset.sum_congr rfl fun i _ => ?_
      rw [Fin.val_succ, pow_succ]; ring

/-- The unrolled recurrence: every input times the decays after it. -/
def unroll (e f : ℕ → ℝ) (n : ℕ) : ℝ := ∑ t ∈ Finset.range n, (∏ u ∈ Finset.Ico (t + 1) n, e u) * f t

/-- The unrolled recurrence goes on by one step. -/
theorem unroll_succ (e f : ℕ → ℝ) (n : ℕ) : unroll e f (n + 1) = e n * unroll e f n + f n := by
  unfold unroll
  rw [Finset.sum_range_succ, Finset.Ico_self, Finset.prod_empty, one_mul, Finset.mul_sum]
  congr 1
  refine Finset.sum_congr rfl fun t ht => ?_
  rw [Finset.prod_Ico_succ_top (Nat.succ_le_of_lt (Finset.mem_range.mp ht))]
  ring

/-- A row of 2048 numbers continued by zero. -/
def ext (f : Fin 2048 → ℝ) (n : ℕ) : ℝ := if h : n < 2048 then f ⟨n, h⟩ else 0

/-- The continued row on the row. -/
theorem ext_val (f : Fin 2048 → ℝ) (t : Fin 2048) : ext f t.val = f t := dif_pos t.isLt

/-- The sum over all later steps, as a sum over a range. -/
theorem later_real (f : Fin 2048 → ℝ) (t : Fin 2048) :
    later (fun u => (f u : EReal)) t = ((∑ u ∈ Finset.Ico (t.val + 1) 2048, ext f u : ℝ) : EReal) := by
  have h : ∑ u : Fin 2048, (if t < u then f u else 0) = ∑ u ∈ Finset.Ico (t.val + 1) 2048, ext f u := by
    have h1 : ∀ u : Fin 2048, (if t < u then f u else 0) = (fun n : ℕ => if t.val < n then ext f n else 0) u.val := fun u => by
      dsimp only
      rw [ext_val]
      rfl
    rw [Finset.sum_congr rfl fun u _ => h1 u, Fin.sum_univ_eq_sum_range (fun n : ℕ => if t.val < n then ext f n else 0) 2048,
      ← Finset.sum_filter]
    congr 1
    ext n
    simp only [Finset.mem_filter, Finset.mem_range, Finset.mem_Ico]
    omega
  rw [← h, coe_sum]
  refine Finset.sum_congr rfl fun u _ => ?_
  split_ifs <;> rfl

/-- The closed form's last output is the recurrence's. -/
theorem closed_eq_scanned (w : Weights) (X : Fin 2048 → Fin 12 → EReal) (H : Finite w X)
    (hL : ∀ (d : Fin 24) (s : Fin 16), w.L d s = w.L d 0 + Ideal.log ((s.val + 1 : ℝ) : EReal)) (d : Fin 24) :
    w.closed X d = w.scanned X d := by
  obtain ⟨g, g0, gadd, gexp⟩ := decay_fun (w.L d) (hL d)
  choose p p0 hp using H.steps d
  choose a ha using H.act d
  choose q hq using H.mix
  have e0 : ∀ n, 0 ≤ ext p n := fun n => by
    unfold ext
    split_ifs
    · exact p0 _
    · exact le_rfl
  have hdec : ∀ t : Fin 2048, w.decay X d t = ((∏ u ∈ Finset.Ico (t.val + 1) 2048, g (ext p u) : ℝ) : EReal) := fun t => by
    unfold Weights.decay
    rw [show w.steps X d = fun u => (p u : EReal) from funext hp, later_real, show w.rate d 0 = -Ideal.exp (w.L d 0) from rfl,
      gexp 0 _ (Finset.sum_nonneg fun u _ => e0 u), fun_sum g g0 gadd _ e0]
    simp
  have hst : ∀ (s : Fin 16) (n : ℕ), n ≤ 2048 → w.state X d s n
      = ((unroll (fun u => g (ext p u) ^ (s.val + 1)) (fun u => ext (fun t => p t * q ⟨4 + s.val, by omega⟩ t * a t) u) n : ℝ) : EReal) := by
    intro s n
    induction n with
    | zero => intro _; simp [Weights.state, unroll]
    | succ n ih =>
      intro h
      have hn : n < 2048 := h
      rw [Weights.state, dif_pos hn, ih (by omega), unroll_succ, hp, ha, hq, show w.rate d s = -Ideal.exp (w.L d s) from rfl,
        gexp s _ (p0 _), EReal.coe_add, EReal.coe_mul]
      rw [show ext p n = p ⟨n, hn⟩ from dif_pos hn,
        show ext (fun t => p t * q ⟨4 + s.val, by omega⟩ t * a t) n = p ⟨n, hn⟩ * q ⟨4 + s.val, by omega⟩ ⟨n, hn⟩ * a ⟨n, hn⟩ from
          dif_pos hn, EReal.coe_mul, EReal.coe_mul]
  unfold Weights.closed Weights.scanned
  refine congrArg (· + _) ?_
  have hl : ∀ t : Fin 2048, w.steps X d t * w.act X d t * w.decay X d t
      * poly 16 (fun s => w.mix X ⟨4 + s.val, by omega⟩ t * w.mix X ⟨20 + s.val, by omega⟩ 2047) (w.decay X d t)
      = ((p t * a t * (∏ u ∈ Finset.Ico (t.val + 1) 2048, g (ext p u))
          * ∑ s : Fin 16, q ⟨4 + s.val, by omega⟩ t * q ⟨20 + s.val, by omega⟩ 2047
            * (∏ u ∈ Finset.Ico (t.val + 1) 2048, g (ext p u)) ^ s.val : ℝ) : EReal) := fun t => by
    rw [hdec, hp, ha]
    simp only [hq, ← EReal.coe_mul]
    rw [poly_real, ← EReal.coe_mul]
  have hr : ∀ s : Fin 16, w.state X d s 2048 * w.mix X ⟨20 + s.val, by omega⟩ 2047
      = ((∑ t : Fin 2048, (∏ u ∈ Finset.Ico (t.val + 1) 2048, g (ext p u)) ^ (s.val + 1)
          * (p t * q ⟨4 + s.val, by omega⟩ t * a t) * q ⟨20 + s.val, by omega⟩ 2047 : ℝ) : EReal) := fun s => by
    rw [hst s 2048 le_rfl, hq, ← EReal.coe_mul]
    unfold unroll
    rw [Finset.sum_mul, Finset.sum_range]
    congr 1
    refine Finset.sum_congr rfl fun t _ => ?_
    dsimp only
    rw [Finset.prod_pow, ext_val]
  rw [Finset.sum_congr rfl fun t _ => hl t, Finset.sum_congr rfl fun s _ => hr s, ← coe_sum, ← coe_sum, Finset.sum_comm]
  congr 1
  refine Finset.sum_congr rfl fun t _ => ?_
  rw [Finset.mul_sum]
  refine Finset.sum_congr rfl fun s _ => ?_
  ring

end Cert.Ssm

end
-- ==== Proof.PreRead.lean ====
/- What the precondition says of the arguments: what reaches the recurrence is real, and the decay rates stand in the
   ratio 1 : 2 : … : 16. Hand-written, untrusted. -/
module

public import proofs.«01_k».proof.Pre_s4d_finite
public import proofs.«01_k».proof.Proof.Math
public import Idealize.ShloMosaic.Lib.ReduceAll
public import Idealize.ShloMosaic.Lib.KernelVsHost
public import Idealize.ShloMosaic.Lib.IdealHost

@[expose] public section

set_option maxRecDepth 16384

noncomputable section

namespace Cert.PreRead

open Idealize.ShloMosaic Cert.Pre_s4d_finite Cert.Ssm

/-- The shape relations the precondition's operations take. -/
theorem facts : Cert.Pre_s4d_finite.Facts where
  bcast_S_S24x16 := by decide
  slices_S24x16_S24x1_0_0 := by decide
  bcast_S24x1_S24x16_0_1 := by decide
  reducesTo_S24x16_S_d0_1 := by decide
  h_S_ := by decide
  bcast_S_S64x2048x12 := by decide
  reducesTo_S64x2048x12_S_d0_1_2 := by decide
  slices_S48x12_S24x12_0_0 := by decide
  bcast_S_S24x12 := by decide
  reducesTo_S24x12_S_d0_1 := by decide
  bcast_S_S24x1x4 := by decide
  reducesTo_S24x1x4_S_d0_1_2 := by decide
  bcast_S_S24 := by decide
  reducesTo_S24_S_d0 := by decide
  bcast_S_S36x24 := by decide
  reducesTo_S36x24_S_d0_1 := by decide
  bcast_S_S24x4 := by decide
  reducesTo_S24x4_S_d0_1 := by decide

/-- A value whose magnitude is below infinity is a real number. -/
theorem real_of_abs_lt (v : EReal) (h : FloatOps.cmpf (F := Ideal) (φ := .f32) .olt (FloatOps.hostAbsf (F := Ideal) (φ := .f32) v)
    (FloatOps.ofBits (F := Ideal) .f32 0x7F800000#32) = 1#1) : IsReal v := by
  have htop : Ideal.ofBits .f32 0x7F800000#32 = ⊤ := by simp [Ideal.ofBits, Ideal.ieee]
  have h1 : Ideal.cmp .olt (max v (-v)) (Ideal.ofBits .f32 0x7F800000#32) = 1#1 := h
  rw [htop] at h1
  induction v with
  | bot => exact absurd h1 (by simp [Ideal.cmp])
  | top => exact absurd h1 (by simp [Ideal.cmp])
  | coe r => exact ⟨r, rfl⟩

/-- The index set of a scalar has one element. -/
instance : Subsingleton S_.Idx := ⟨fun _ _ => funext fun a => a.elim0⟩

/-- An array all of whose magnitudes test below infinity is one of real numbers. -/
theorem real_of_all {s : Shape} {axes : List (Fin s.rank)} (a : s.Idx → EReal) (hb : S_.BroadcastsInDim s (![] : Fin 0 → Fin s.rank))
    (hr : s.ReducesTo axes S_) (hu : 0 < S_.numel) (j : S_.Idx)
    (h : Host.reduce IntOp.andi (cmpf (F := Ideal) (φ := .f32) .olt (Host.absf a)
      (broadcastInDim s ![] hb (constant (F := Ideal) S_ .f32 0x7F800000#32))) (constantI S_ 1 1#1) hr hu j = 1#1) (i : s.Idx) :
    IsReal (a i) :=
  real_of_abs_lt _ (Host.reduce_andi_all _ _ _ _ j h i)

/-- The state number plus one, as the precondition computes it. -/
theorem count_at (s : Fin 16) : FloatOps.addf (F := Ideal) (φ := .f32) (Scalar.sitofp (F := Ideal) .f32 (BitVec.ofNat 32 s.val))
    (FloatOps.ofBits (F := Ideal) .f32 0x3F800000#32) = ((s.val + 1 : ℝ) : EReal) := by
  have h1 : FloatOps.ofBits (F := Ideal) .f32 0x3F800000#32 = (1 : EReal) := Ideal.ofBits_one_f32
  have h2 : (Scalar.sitofp (F := Ideal) .f32 (BitVec.ofNat 32 s.val) : EReal) = ((s.val : ℝ) : EReal) := by
    have h3 : (BitVec.ofNat 32 s.val).toInt = (s.val : ℤ) := by
      rw [BitVec.toInt_eq_toNat_cond, BitVec.toNat_ofNat]
      have := s.isLt
      rw [Nat.mod_eq_of_lt (by omega), if_pos (by omega)]
    show (((BitVec.ofNat 32 s.val).toInt : ℝ) : EReal) = _
    rw [h3]
    norm_cast
  rw [h1]
  show (Scalar.sitofp (F := Ideal) .f32 (BitVec.ofNat 32 s.val) : EReal) + 1 = _
  rw [h2, EReal.coe_add]
  rfl

/-- The rates' logarithms that test equal to the first one's plus the logarithm of the state number. -/
theorem ratio_of_all (a : S24x16.Idx → EReal) (h0 : S_.BroadcastsInDim S24x16 (![] : Fin 0 → Fin S24x16.rank))
    (h1 : S24x16.Slices ![0, 0] S24x1) (h2 : S24x1.BroadcastsInDim S24x16 (![0, 1] : Fin 2 → Fin S24x16.rank))
    (hr : S24x16.ReducesTo [0, 1] S_) (hu : 0 < S_.numel) (j : S_.Idx)
    (h : Host.reduce IntOp.andi (cmpf (F := Ideal) (φ := .f32) .oeq a
      (addf (broadcastInDim S24x16 ![0, 1] h2 (extractStridedSlice S24x1 ![0, 0] a h1))
        (Host.log (addf (sitofp .f32 (iotaInDim S24x16 32 1))
          (broadcastInDim S24x16 ![] h0 (constant (F := Ideal) S_ .f32 0x3F800000#32)))))) (constantI S_ 1 1#1) hr hu j = 1#1)
    (d : Fin 24) (s : Fin 16) : a (ix2 d s) = a (ix2 d 0) + Ideal.log ((s.val + 1 : ℝ) : EReal) := by
  have e := Host.reduce_andi_all _ _ _ _ j h (ix2 d s)
  have e1 : a (ix2 d s) = broadcastInDim S24x16 ![0, 1] h2 (extractStridedSlice S24x1 ![0, 0] a h1) (ix2 d s)
      + Ideal.log (FloatOps.addf (F := Ideal) (φ := .f32) (Scalar.sitofp (F := Ideal) .f32 (BitVec.ofNat 32 s.val))
        (FloatOps.ofBits (F := Ideal) .f32 0x3F800000#32)) := by
    by_contra hne
    have e2 : BitVec.ofBool (decide (a (ix2 d s) = broadcastInDim S24x16 ![0, 1] h2 (extractStridedSlice S24x1 ![0, 0] a h1) (ix2 d s)
      + Ideal.log (FloatOps.addf (F := Ideal) (φ := .f32) (Scalar.sitofp (F := Ideal) .f32 (BitVec.ofNat 32 s.val))
        (FloatOps.ofBits (F := Ideal) .f32 0x3F800000#32)))) = 1#1 := e
    rw [decide_eq_false hne] at e2
    exact absurd e2 (by decide)
  rw [e1, count_at, broadcastInDim_apply _ h2 _ (ix2 d s) (ix2 d 0) (fun x => match x with | 0 => rfl | 1 => rfl),
    extractStridedSlice_apply _ a h1 (ix2 d 0) (ix2 d 0) (fun x => match x with | 0 => (Nat.zero_add _).symm | 1 => rfl)]

/-- What the precondition says of the arguments it reads. -/
theorem read [Facts] (a0 : S64x2048x12.Idx → EReal) (a1 : S48x12.Idx → EReal) (a2 : S24x1x4.Idx → EReal) (a3 : S24.Idx → EReal)
    (a4 : S36x24.Idx → EReal) (a5 : S24x4.Idx → EReal) (a6 : S24.Idx → EReal) (a7 : S24x16.Idx → EReal) (a8 : S24.Idx → EReal)
    (a9 : S12x24.Idx → EReal) (a10 : S1x12.Idx → EReal) (a11 : S1.Idx → EReal)
    (h : fn (F := Ideal) a0 a1 a2 a3 a4 a5 a6 a7 a8 a9 a10 a11 = fun _ => 1#1) :
    (∀ b, Finite (weights a1 a2 a3 a4 a5 a6 a7 a8 a9 a10 a11) (batch a0 b))
      ∧ ∀ (d : Fin 24) (s : Fin 16), a7 (ix2 d s) = a7 (ix2 d 0) + Ideal.log ((s.val + 1 : ℝ) : EReal) := by
  have e := congrFun h fun a => a.elim0
  unfold fn fn_part1 fn_part2 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e7, e0⟩ := IntOp.andi_eq_one.1 e
  refine ⟨fun b => ⟨fun t k => ?_, fun x y => ?_, fun d j => ?_, fun d => ?_, fun x y => ?_, fun x y => ?_, fun d => ?_⟩, ?_⟩
  · exact real_of_all a0 _ _ _ _ e0 _
  · have h1 := real_of_all _ _ _ _ _ e1 (ix2 x y)
    rwa [extractStridedSlice_apply ![0, 0] a1 _ (ix2 x y) (ix2 ⟨x.val, by omega⟩ y)
      (fun a => match a with | 0 => (Nat.zero_add _).symm | 1 => (Nat.zero_add _).symm)] at h1
  · exact real_of_all a2 _ _ _ _ e2 _
  · exact real_of_all a3 _ _ _ _ e3 _
  · exact real_of_all a4 _ _ _ _ e4 _
  · exact real_of_all a5 _ _ _ _ e5 _
  · exact real_of_all a6 _ _ _ _ e6 _
  · exact ratio_of_all a7 _ _ _ _ _ _ e7

end Cert.PreRead

end
-- ==== Proof.Claims.lean ====
/- The two programs' runs side by side: what each ends with, and the two results equal. Hand-written, untrusted. -/
module

public import proofs.«01_k».proof.Defs
public import proofs.«01_k».proof.Proof.Gen.KernelIdeal.Frame
public import proofs.«01_k».proof.Proof.Entry
public import proofs.«01_k».proof.Proof.RefRead
public import proofs.«01_k».proof.Proof.PreRead
public import Idealize.ShloMosaic.Lib.Quiescent

@[expose] public section

set_option maxRecDepth 16384

noncomputable section

namespace Cert.ReferenceIdeal.Entry

open Idealize.ShloMosaic Idealize.SL.Sem Idealize.ShloMosaic.StableHlo Cert.ReferenceIdeal Cert.ReferenceIdeal.Gen Cert.ReferenceIdeal.Value

variable (m : (ℓ : Loc nD τ sig) → Buf (Elt Ideal) ℓ) (ρ : Dev nD → PrngReg)

/-- The references the last stretch of operations writes, in order. -/
abbrev tailW : List (Ref sig .tc) :=
  [main_v74, main_v75, main_v76, main_v77, main_v78, main_v79, main_v80, main_cst_5, main_v81, main_v82, main_cst_6, main_v83, main_v84, main_v85, main_v86, main_v87, main_v88, main_v89, main_v90, main_v91, main_v92, main_v93, main_v94, main_v95]

/-- Each operation of the last stretch writes among them. -/
theorem tail_writes : (hostOps0_5 : List (HloOp τ sig (Elt Ideal))).Forall fun op =>
    op.writes ⊆ (tailW.map (Proc.devRef (τ := τ) .tc)).toFinset :=
  StableHlo.forall_writes_sub_of_map rfl

/-- The last stretch writes no reference outside them. -/
theorem tail_keeps (r : Ref sig .tc) (h : r ∉ tailW) :
    ∀ op ∈ (hostOps0_5 : List (HloOp τ sig (Elt Ideal))), (Proc.devRef .tc r : DevRef τ sig) ∉ op.writes := by
  intro op hop hr
  have h1 := List.mem_toFinset.mp (List.forall_iff_forall_mem.mp tail_writes op hop hr)
  obtain ⟨q, hq, e⟩ := List.mem_map.mp h1
  exact h (Proc.devRef_injective .tc e ▸ hq)

/-- The reference runs, ends with its result array at the recurrence's predictions, and changes no argument. -/
theorem run : θ_run (defs (F := Ideal)) (onTc (τ := τ) (main (F := Ideal))) ⟨m, fun _ => 0, ρ⟩ fun r => ∀ c : Dev nD,
      r.2.mem ((c.tc : Thread nD τ).loc main_v95) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨(h c main_v95 rfl).trans (final_eq m c),
      (h c main_arg0 rfl).trans (final_arg m c main_arg0 (by decide) (tail_keeps _ (by decide))),
      (h c main_arg1 rfl).trans (final_arg m c main_arg1 (by decide) (tail_keeps _ (by decide))),
      (h c main_arg2 rfl).trans (final_arg m c main_arg2 (by decide) (tail_keeps _ (by decide))),
      (h c main_arg3 rfl).trans (final_arg m c main_arg3 (by decide) (tail_keeps _ (by decide))),
      (h c main_arg4 rfl).trans (final_arg m c main_arg4 (by decide) (tail_keeps _ (by decide))),
      (h c main_arg5 rfl).trans (final_arg m c main_arg5 (by decide) (tail_keeps _ (by decide))),
      (h c main_arg6 rfl).trans (final_arg m c main_arg6 (by decide) (tail_keeps _ (by decide))),
      (h c main_arg7 rfl).trans (final_arg m c main_arg7 (by decide) (tail_keeps _ (by decide))),
      (h c main_arg8 rfl).trans (final_arg m c main_arg8 (by decide) (tail_keeps _ (by decide))),
      (h c main_arg9 rfl).trans (final_arg m c main_arg9 (by decide) (tail_keeps _ (by decide))),
      (h c main_arg10 rfl).trans (final_arg m c main_arg10 (by decide) (tail_keeps _ (by decide))),
      (h c main_arg11 rfl).trans (final_arg m c main_arg11 (by decide) (tail_keeps _ (by decide)))⟩)
    (run_fold (F := Ideal) m ρ)

end Cert.ReferenceIdeal.Entry

namespace Cert.Proof

open Idealize.ShloMosaic Idealize.SL.Sem

/-- The reference's frame. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Entry.run m ρ)

/-- From arguments of which the precondition holds, the two programs' result arrays are equal. -/
theorem results_eq (m : (ℓ : Loc Cert.KernelIdeal.nD Cert.KernelIdeal.τ Cert.KernelIdeal.sig) → Buf (Elt Ideal) ℓ)
    (c : Dev Cert.KernelIdeal.nD) (hp : Cert.Pre_KernelIdeal_s4d_finite (hPre_s4d_finite := Cert.PreRead.facts) m) (i : Cert.KernelIdeal.S64x1x1.Idx) :
    (Cert.KernelIdeal.Entry.weightsOf m c).out (Ssm.batch (m (c.tc.loc Cert.KernelIdeal.main_arg0)) (i 0))
        ((Cert.KernelIdeal.Entry.weightsOf m c).scanned (Ssm.batch (m (c.tc.loc Cert.KernelIdeal.main_arg0)) (i 0)))
      = Cert.KernelIdeal.Entry.result m c i := by
  obtain ⟨hf, hr⟩ := @Cert.PreRead.read Cert.PreRead.facts _ _ _ _ _ _ _ _ _ _ _ _ (hp c)
  unfold Cert.KernelIdeal.Entry.result
  refine congrArg _ (funext fun d => ?_)
  exact (Ssm.closed_eq_scanned _ _ (hf (i 0)) hr d).symm

/-- The kernel's result array is the reference's. -/
theorem algebraic : Cert.algebraic_KernelIdeal_ReferenceIdeal_pre_s4d_finite (hKernelIdeal := Cert.KernelIdeal.Gen.facts)
    (hReferenceIdeal := Cert.ReferenceIdeal.Gen.facts) (hPre_s4d_finite := Cert.PreRead.facts) := by
  intro m g m' g' hp hagree
  refine ⟨fun c => Cert.KernelIdeal.Entry.result m c, ?_, ?_⟩
  · exact (θ_run Cert.KernelIdeal.defs _ _).mono (fun r h c => ⟨(h c).1.trans (Cert.KernelIdeal.Entry.arr_eq m c), (h c).2⟩)
      (Cert.KernelIdeal.Value.run_blocks m g)
  · refine (θ_run Cert.ReferenceIdeal.defs _ _).mono (fun r h c => ⟨(h c).1.trans ?_, (h c).2⟩)
      (Cert.ReferenceIdeal.Entry.run m' g')
    obtain ⟨h0, h1, h2, h3, h4, h5, h6, h7, h8, h9, h10, h11⟩ := hagree c
    funext i
    refine Eq.trans ?_ (results_eq m c hp i)
    unfold Cert.ReferenceIdeal.Entry.result
    simp only [Cert.ReferenceIdeal.Entry.weightsOf, Cert.ReferenceIdeal.Entry.rowOf]
    rw [h0, h1, h2, h3, h4, h5, h6, h7, h8, h9, h10, h11]

end Cert.Proof

end
-- ==== Proof.lean ====
/- The claim, assembled: the three frames, the two programs' one text, and the value claim. Hand-written, untrusted. -/
module

public import proofs.«01_k».proof.Defs
public import proofs.«01_k».proof.Proof.Gen.Kernel.Frame
public import proofs.«01_k».proof.Proof.Gen.KernelIdeal.Frame
public import proofs.«01_k».proof.Proof.Claims

@[expose] public section

noncomputable section

namespace Cert.Proof

open Idealize.ShloMosaic Idealize.SL.Sem

/-- Everything the statement claims: each program ends with its arguments unchanged and no counter left, and the kernel's
    result is the reference's wherever the precondition holds. -/
theorem claim : Cert.Claim :=
  ⟨Cert.Kernel.Gen.facts, Cert.KernelIdeal.Gen.facts, Cert.ReferenceIdeal.Gen.facts, Cert.PreRead.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    trivial,
    algebraic⟩

end Cert.Proof

end
